-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_zero_or_one [hPre_rows_zero_or_one : Cert.Pre_rows_zero_or_one.Facts] (m : (ℓ : Loc Cert.KernelIdeal.nD Cert.KernelIdeal.τ Cert.KernelIdeal.sig) → Buf (Elt Ideal) ℓ) : Prop :=
  ∀ c : Dev Cert.KernelIdeal.nD,
    (Cert.Pre_rows_zero_or_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_zero_or_one [hPre_rows_zero_or_one : Cert.Pre_rows_zero_or_one.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_zero_or_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_rows_zero_or_one [hKernelIdeal : Cert.KernelIdeal.Facts] [hPre_rows_zero_or_one : Cert.Pre_rows_zero_or_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_zero_or_one m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_rows_zero_or_one [hReferenceIdeal : Cert.ReferenceIdeal.Facts] [hPre_rows_zero_or_one : Cert.Pre_rows_zero_or_one.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_zero_or_one m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_rows_zero_or_one [hKernelIdeal : Cert.KernelIdeal.Facts] [hReferenceIdeal : Cert.ReferenceIdeal.Facts] [hPre_rows_zero_or_one : Cert.Pre_rows_zero_or_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_zero_or_one m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_rows_zero_or_one : Cert.Pre_rows_zero_or_one.Facts),
    quiescent_Kernel (hKernel := hKernel)
    ∧ quiescent_KernelIdeal (hKernelIdeal := hKernelIdeal)
    ∧ quiescent_KernelIdeal_pre_rows_zero_or_one (hKernelIdeal := hKernelIdeal) (hPre_rows_zero_or_one := hPre_rows_zero_or_one)
    ∧ quiescent_ReferenceIdeal (hReferenceIdeal := hReferenceIdeal)
    ∧ quiescent_ReferenceIdeal_pre_rows_zero_or_one (hReferenceIdeal := hReferenceIdeal) (hPre_rows_zero_or_one := hPre_rows_zero_or_one)
    ∧ preserves_Kernel_KernelIdeal
    ∧ algebraic_KernelIdeal_ReferenceIdeal_pre_rows_zero_or_one (hKernelIdeal := hKernelIdeal) (hReferenceIdeal := hReferenceIdeal) (hPre_rows_zero_or_one := hPre_rows_zero_or_one)
-- ==== Pre_rows_zero_or_one.lean ====
abbrev S4096x200x4 : Shape := ⟨3, ![4096, 200, 4]⟩
abbrev S4x128 : Shape := ⟨2, ![4, 128]⟩
abbrev S128 : Shape := ⟨1, ![128]⟩
abbrev S128x128 : Shape := ⟨2, ![128, 128]⟩
abbrev S24x32 : Shape := ⟨2, ![24, 32]⟩
abbrev S7x32 : Shape := ⟨2, ![7, 32]⟩
abbrev S12x32 : Shape := ⟨2, ![12, 32]⟩
abbrev S2x32 : Shape := ⟨2, ![2, 32]⟩
abbrev S_ : Shape := ⟨0, ![]⟩
abbrev S4096x200x4x1 : Shape := ⟨4, ![4096, 200, 4, 1]⟩
abbrev S1x32 : Shape := ⟨2, ![1, 32]⟩
abbrev S32 : Shape := ⟨1, ![32]⟩
abbrev S1x1x1x32 : Shape := ⟨4, ![1, 1, 1, 32]⟩
abbrev S4096x200x4x32 : Shape := ⟨4, ![4096, 200, 4, 32]⟩

class Facts : Prop where
  bcast_S_S4096x200x4 : S_.BroadcastsInDim S4096x200x4 (![] : Fin 0 → Fin S4096x200x4.rank)
  bcast_S4096x200x4_S4096x200x4x1_0_1_2 : S4096x200x4.BroadcastsInDim S4096x200x4x1 (![0, 1, 2] : Fin 3 → Fin S4096x200x4x1.rank)
  slices_S24x32_S1x32_0_0 : S24x32.Slices ![0, 0] S1x32
  shapeCasts_S1x32_S32 : S1x32.ShapeCasts S32
  bcast_S_S32 : S_.BroadcastsInDim S32 (![] : Fin 0 → Fin S32.rank)
  bcast_S32_S1x1x1x32_3 : S32.BroadcastsInDim S1x1x1x32 (![3] : Fin 1 → Fin S1x1x1x32.rank)
  bcast_S4096x200x4x1_S4096x200x4x32_0_1_2_3 : S4096x200x4x1.BroadcastsInDim S4096x200x4x32 (![0, 1, 2, 3] : Fin 4 → Fin S4096x200x4x32.rank)
  bcast_S1x1x1x32_S4096x200x4x32_0_1_2_3 : S1x1x1x32.BroadcastsInDim S4096x200x4x32 (![0, 1, 2, 3] : Fin 4 → Fin S4096x200x4x32.rank)
  slices_S7x32_S1x32_0_0 : S7x32.Slices ![0, 0] S1x32
  slices_S12x32_S1x32_0_0 : S12x32.Slices ![0, 0] S1x32
  slices_S2x32_S1x32_0_0 : S2x32.Slices ![0, 0] S1x32

variable [Facts]

def fn_part1 {F : FTy → Type} [FloatOps F] (main_arg8 : FVec F S12x32 .f32) (main_arg9 : FVec F S2x32 .f32) (main_v14 : IVec S4096x200x4x32 1) (main_v19 : IVec S32 1) : IVec S4096x200x4x32 1 :=
  let main_v20 : IVec S1x1x1x32 1 := broadcastInDim S1x1x1x32 ![3] bcast_S32_S1x1x1x32_3 main_v19
  let main_v21 : IVec S4096x200x4x32 1 := broadcastInDim S4096x200x4x32 ![0, 1, 2, 3] bcast_S1x1x1x32_S4096x200x4x32_0_1_2_3 main_v20
  let main_v22 : IVec S4096x200x4x32 1 := andi main_v14 main_v21
  let main_v23 : FVec F S1x32 .f32 := (extractStridedSlice S1x32 ![0, 0] · slices_S12x32_S1x32_0_0) main_arg8
  let main_v24 : FVec F S32 .f32 := shapeCast S32 main_v23 shapeCasts_S1x32_S32
  let main_v25 : FVec F S32 .f32 := subf main_v24 main_v24
  let main_cst_2 : FVec F S_ .f32 := constant S_ .f32 0x00000000#32
  let main_v26 : FVec F S32 .f32 := broadcastInDim S32 ![] bcast_S_S32 main_cst_2
  let main_v27 : IVec S32 1 := cmpf .oeq main_v25 main_v26
  let main_v28 : IVec S1x1x1x32 1 := broadcastInDim S1x1x1x32 ![3] bcast_S32_S1x1x1x32_3 main_v27
  let main_v29 : IVec S4096x200x4x32 1 := broadcastInDim S4096x200x4x32 ![0, 1, 2, 3] bcast_S1x1x1x32_S4096x200x4x32_0_1_2_3 main_v28
  let main_v30 : IVec S4096x200x4x32 1 := andi main_v22 main_v29
  let main_v31 : FVec F S1x32 .f32 := (extractStridedSlice S1x32 ![0, 0] · slices_S2x32_S1x32_0_0) main_arg9
  let main_v32 : FVec F S32 .f32 := shapeCast S32 main_v31 shapeCasts_S1x32_S32
  let main_v33 : FVec F S32 .f32 := subf main_v32 main_v32
  let main_cst_3 : FVec F S_ .f32 := constant S_ .f32 0x00000000#32
  let main_v34 : FVec F S32 .f32 := broadcastInDim S32 ![] bcast_S_S32 main_cst_3
  let main_v35 : IVec S32 1 := cmpf .oeq main_v33 main_v34
  let main_v36 : IVec S1x1x1x32 1 := broadcastInDim S1x1x1x32 ![3] bcast_S32_S1x1x1x32_3 main_v35
  let main_v37 : IVec S4096x200x4x32 1 := broadcastInDim S4096x200x4x32 ![0, 1, 2, 3] bcast_S1x1x1x32_S4096x200x4x32_0_1_2_3 main_v36
  let main_v38 : IVec S4096x200x4x32 1 := andi main_v30 main_v37
  main_v38

def fn {F : FTy → Type} [FloatOps F] (main_arg0 : FVec F S4096x200x4 .f32) (main_arg1 : IVec S4096x200x4 32) (main_arg2 : FVec F S4x128 .f32) (main_arg3 : FVec F S128 .f32) (main_arg4 : FVec F S128x128 .f32) (main_arg5 : FVec F S128 .f32) (main_arg6 : FVec F S24x32 .f32) (main_arg7 : FVec F S7x32 .f32) (main_arg8 : FVec F S12x32 .f32) (main_arg9 : FVec F S2x32 .f32) : IVec S4096x200x4x32 1 :=
  let main_c : IVec S_ 32 := constantI S_ 32 0#32
  let main_v0 : IVec S4096x200x4 32 := broadcastInDim S4096x200x4 ![] bcast_S_S4096x200x4 main_c
  let main_v1 : IVec S4096x200x4 1 := cmpi .sge main_arg1 main_v0
  let main_c_0 : IVec S_ 32 := constantI S_ 32 2#32
  let main_v2 : IVec S4096x200x4 32 := broadcastInDim S4096x200x4 ![] bcast_S_S4096x200x4 main_c_0
  let main_v3 : IVec S4096x200x4 1 := cmpi .slt main_arg1 main_v2
  let main_v4 : IVec S4096x200x4 1 := andi main_v1 main_v3
  let main_v5 : IVec S4096x200x4x1 1 := broadcastInDim S4096x200x4x1 ![0, 1, 2] bcast_S4096x200x4_S4096x200x4x1_0_1_2 main_v4
  let main_v6 : FVec F S1x32 .f32 := (extractStridedSlice S1x32 ![0, 0] · slices_S24x32_S1x32_0_0) main_arg6
  let main_v7 : FVec F S32 .f32 := shapeCast S32 main_v6 shapeCasts_S1x32_S32
  let main_v8 : FVec F S32 .f32 := subf main_v7 main_v7
  let main_cst : FVec F S_ .f32 := constant S_ .f32 0x00000000#32
  let main_v9 : FVec F S32 .f32 := broadcastInDim S32 ![] bcast_S_S32 main_cst
  let main_v10 : IVec S32 1 := cmpf .oeq main_v8 main_v9
  let main_v11 : IVec S1x1x1x32 1 := broadcastInDim S1x1x1x32 ![3] bcast_S32_S1x1x1x32_3 main_v10
  let main_v12 : IVec S4096x200x4x32 1 := broadcastInDim S4096x200x4x32 ![0, 1, 2, 3] bcast_S4096x200x4x1_S4096x200x4x32_0_1_2_3 main_v5
  let main_v13 : IVec S4096x200x4x32 1 := broadcastInDim S4096x200x4x32 ![0, 1, 2, 3] bcast_S1x1x1x32_S4096x200x4x32_0_1_2_3 main_v11
  let main_v14 : IVec S4096x200x4x32 1 := andi main_v12 main_v13
  let main_v15 : FVec F S1x32 .f32 := (extractStridedSlice S1x32 ![0, 0] · slices_S7x32_S1x32_0_0) main_arg7
  let main_v16 : FVec F S32 .f32 := shapeCast S32 main_v15 shapeCasts_S1x32_S32
  let main_v17 : FVec F S32 .f32 := subf main_v16 main_v16
  let main_cst_1 : FVec F S_ .f32 := constant S_ .f32 0x00000000#32
  let main_v18 : FVec F S32 .f32 := broadcastInDim S32 ![] bcast_S_S32 main_cst_1
  let main_v19 : IVec S32 1 := cmpf .oeq main_v17 main_v18
  fn_part1 (F := F) main_arg8 main_arg9 main_v14 main_v19
-- ==== Kernel.lean ====
abbrev S4096x200x4 : Shape := ⟨3, ![4096, 200, 4]⟩
abbrev S4x128 : Shape := ⟨2, ![4, 128]⟩
abbrev S128 : Shape := ⟨1, ![128]⟩
abbrev S128x128 : Shape := ⟨2, ![128, 128]⟩
abbrev S24x32 : Shape := ⟨2, ![24, 32]⟩
abbrev S7x32 : Shape := ⟨2, ![7, 32]⟩
abbrev S12x32 : Shape := ⟨2, ![12, 32]⟩
abbrev S2x32 : Shape := ⟨2, ![2, 32]⟩
abbrev S200x4x4096 : Shape := ⟨3, ![200, 4, 4096]⟩
abbrev S1x32 : Shape := ⟨2, ![1, 32]⟩
abbrev S32 : Shape := ⟨1, ![32]⟩
abbrev S_ : Shape := ⟨0, ![]⟩
abbrev S1x128 : Shape := ⟨2, ![1, 128]⟩
abbrev S4 : Shape := ⟨1, ![4]⟩
abbrev S4x1 : Shape := ⟨2, ![4, 1]⟩
abbrev S128x4 : Shape := ⟨2, ![128, 4]⟩
abbrev S128x1 : Shape := ⟨2, ![128, 1]⟩
abbrev S128x5 : Shape := ⟨2, ![128, 5]⟩
abbrev S133x128 : Shape := ⟨2, ![133, 128]⟩
abbrev S4096x200x128 : Shape := ⟨3, ![4096, 200, 128]⟩
abbrev S4x4x4096 : Shape := ⟨3, ![4, 4, 4096]⟩
abbrev S4x4096x128 : Shape := ⟨3, ![4, 4096, 128]⟩
abbrev S1x16384 : Shape := ⟨2, ![1, 16384]⟩
abbrev S1x4x4096 : Shape := ⟨3, ![1, 4, 4096]⟩
abbrev S4x4096 : Shape := ⟨2, ![4, 4096]⟩
abbrev S4x16384 : Shape := ⟨2, ![4, 16384]⟩
abbrev S5x16384 : Shape := ⟨2, ![5, 16384]⟩
abbrev S128x16384 : Shape := ⟨2, ![128, 16384]⟩
abbrev S133x16384 : Shape := ⟨2, ![133, 16384]⟩
abbrev S16384x128 : Shape := ⟨2, ![16384, 128]⟩
abbrev S1 : Shape := ⟨1, ![1]⟩
abbrev S4096x1x128 : Shape := ⟨3, ![4096, 1, 128]⟩
abbrev S4096x128 : Shape := ⟨2, ![4096, 128]⟩
abbrev S1x4096x128 : Shape := ⟨3, ![1, 4096, 128]⟩

abbrev nBuf : Space → Nat
  | .hbm => 69
  | .vmem => 7
  | .smem => 0
  | _ => 0

abbrev bufTy : (tb : Table) → Fin (tcTables nBuf tb) → BufTy
  | .hbm, ⟨0, _⟩ => ⟨S4096x200x4, .f32⟩
  | .hbm, ⟨1, _⟩ => ⟨S4096x200x4, .i32⟩
  | .hbm, ⟨2, _⟩ => ⟨S4x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S24x32, .f32⟩
  | .hbm, ⟨7, _⟩ => ⟨S7x32, .f32⟩
  | .hbm, ⟨8, _⟩ => ⟨S12x32, .f32⟩
  | .hbm, ⟨9, _⟩ => ⟨S2x32, .f32⟩
  | .hbm, ⟨10, _⟩ => ⟨S200x4x4096, .f32⟩
  | .hbm, ⟨11, _⟩ => ⟨S200x4x4096, .i32⟩
  | .hbm, ⟨12, _⟩ => ⟨S1x32, .f32⟩
  | .hbm, ⟨13, _⟩ => ⟨S32, .f32⟩
  | .hbm, ⟨14, _⟩ => ⟨S1x32, .f32⟩
  | .hbm, ⟨15, _⟩ => ⟨S32, .f32⟩
  | .hbm, ⟨16, _⟩ => ⟨S1x32, .f32⟩
  | .hbm, ⟨17, _⟩ => ⟨S32, .f32⟩
  | .hbm, ⟨18, _⟩ => ⟨S1x32, .f32⟩
  | .hbm, ⟨19, _⟩ => ⟨S32, .f32⟩
  | .hbm, ⟨20, _⟩ => ⟨S128, .f32⟩
  | .hbm, ⟨21, _⟩ => ⟨S1x32, .f32⟩
  | .hbm, ⟨22, _⟩ => ⟨S32, .f32⟩
  | .hbm, ⟨23, _⟩ => ⟨S1x32, .f32⟩
  | .hbm, ⟨24, _⟩ => ⟨S32, .f32⟩
  | .hbm, ⟨25, _⟩ => ⟨S1x32, .f32⟩
  | .hbm, ⟨26, _⟩ => ⟨S32, .f32⟩
  | .hbm, ⟨27, _⟩ => ⟨S1x32, .f32⟩
  | .hbm, ⟨28, _⟩ => ⟨S32, .f32⟩
  | .hbm, ⟨29, _⟩ => ⟨S128, .f32⟩
  | .hbm, ⟨30, _⟩ => ⟨S128, .f32⟩
  | .hbm, ⟨31, _⟩ => ⟨S128, .i32⟩
  | .hbm, ⟨32, _⟩ => ⟨S_, .i32⟩
  | .hbm, ⟨33, _⟩ => ⟨S_, .i32⟩
  | .hbm, ⟨34, _⟩ => ⟨S128, .i32⟩
  | .hbm, ⟨35, _⟩ => ⟨S128, .i32⟩
  | .hbm, ⟨36, _⟩ => ⟨S128, .i32⟩
  | .hbm, ⟨37, _⟩ => ⟨S_, .i32⟩
  | .hbm, ⟨38, _⟩ => ⟨S128, .i32⟩
  | .hbm, ⟨39, _⟩ => ⟨S128, .i1⟩
  | .hbm, ⟨40, _⟩ => ⟨S128, .i32⟩
  | .hbm, ⟨41, _⟩ => ⟨S128, .i32⟩
  | .hbm, ⟨42, _⟩ => ⟨S_, .i32⟩
  | .hbm, ⟨43, _⟩ => ⟨S128, .i32⟩
  | .hbm, ⟨44, _⟩ => ⟨S128, .i1⟩
  | .hbm, ⟨45, _⟩ => ⟨S128, .i1⟩
  | .hbm, ⟨46, _⟩ => ⟨S_, .i32⟩
  | .hbm, ⟨47, _⟩ => ⟨S128, .i32⟩
  | .hbm, ⟨48, _⟩ => ⟨S128, .i32⟩
  | .hbm, ⟨49, _⟩ => ⟨S128, .i32⟩
  | .hbm, ⟨50, _⟩ => ⟨S1x128, .i32⟩
  | .hbm, ⟨51, _⟩ => ⟨S4, .i32⟩
  | .hbm, ⟨52, _⟩ => ⟨S4x1, .i32⟩
  | .hbm, ⟨53, _⟩ => ⟨S4x128, .i32⟩
  | .hbm, ⟨54, _⟩ => ⟨S4x128, .i32⟩
  | .hbm, ⟨55, _⟩ => ⟨S4x128, .i1⟩
  | .hbm, ⟨56, _⟩ => ⟨S1x128, .f32⟩
  | .hbm, ⟨57, _⟩ => ⟨S_, .f32⟩
  | .hbm, ⟨58, _⟩ => ⟨S_, .f32⟩
  | .hbm, ⟨59, _⟩ => ⟨S4x128, .f32⟩
  | .hbm, ⟨60, _⟩ => ⟨S4x128, .f32⟩
  | .hbm, ⟨61, _⟩ => ⟨S4x128, .f32⟩
  | .hbm, ⟨62, _⟩ => ⟨S128, .f32⟩
  | .hbm, ⟨63, _⟩ => ⟨S1x128, .f32⟩
  | .hbm, ⟨64, _⟩ => ⟨S128x4, .f32⟩
  | .hbm, ⟨65, _⟩ => ⟨S128x1, .f32⟩
  | .hbm, ⟨66, _⟩ => ⟨S128x5, .f32⟩
  | .hbm, ⟨67, _⟩ => ⟨S133x128, .f32⟩
  | .hbm, ⟨68, _⟩ => ⟨S4096x200x128, .f32⟩
  | .local _ .vmem, ⟨0, _⟩ => ⟨S4x4x4096, .f32⟩
  | .local _ .vmem, ⟨1, _⟩ => ⟨S4x4x4096, .f32⟩
  | .local _ .vmem, ⟨2, _⟩ => ⟨S4x4x4096, .i32⟩
  | .local _ .vmem, ⟨3, _⟩ => ⟨S4x4x4096, .i32⟩
  | .local _ .vmem, ⟨4, _⟩ => ⟨S128x5, .f32⟩
  | .local _ .vmem, ⟨5, _⟩ => ⟨S133x128, .f32⟩
  | .local _ .vmem, ⟨6, _⟩ => ⟨S4x4096x128, .f32⟩
  | _, _ => ⟨S4096x200x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_c : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_0 : Ref sig .tc := ⟨.hbm, 46, rfl⟩
abbrev main_call0_v12 : Ref sig .tc := ⟨.hbm, 47, rfl⟩
abbrev main_call0_v13 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![50], ![false]⟩

def k0_cond1 (i : grid0.Coords) : BitVec 1 :=
  let arg0 : BitVec 32 := BitVec.ofNat 32 (i 0).val
  let c1_i32 : BitVec 32 := 1#32
  let v30 : BitVec 1 := Scalar.cmpi .sge arg0 c1_i32
  let v31 : BitVec 32 := Scalar.extui v30
  let c0_i32 : BitVec 32 := 0#32
  let v32 : BitVec 1 := Scalar.cmpi .ne v31 c0_i32
  v32

def k0_off1 (i : grid0.Coords) : Fin 3 → Nat :=
  let c0_i32_80 : BitVec 32 := 0#32
  let c4_i32_76 : BitVec 32 := 4#32
  let arg0 : BitVec 32 := BitVec.ofNat 32 (i 0).val
  let c1_i32_75 : BitVec 32 := 1#32
  let v93 : BitVec 32 := Scalar.subi arg0 c1_i32_75
  let v94 : BitVec 32 := Scalar.muli c4_i32_76 v93
  let c0_i32_77 : BitVec 32 := 0#32
  let v95 : BitVec 32 := Scalar.addi v94 c0_i32_77
  let c0_i32_81 : BitVec 32 := 0#32
  ![0, v95.toNat, 0]
def k0_off2 (i : grid0.Coords) (c0_i32_30 : BitVec 32) : Fin 3 → Nat :=
  let c0_i32_33 : BitVec 32 := 0#32
  let c4_i32 : BitVec 32 := 4#32
  let arg0 : BitVec 32 := BitVec.ofNat 32 (i 0).val
  let v37 : BitVec 32 := Scalar.muli c4_i32 arg0
  let v38 : BitVec 32 := Scalar.addi v37 c0_i32_30
  let c0_i32_34 : BitVec 32 := 0#32
  ![0, v38.toNat, 0]
def k0_cond2 (i : grid0.Coords) : BitVec 1 :=
  let arg0 : BitVec 32 := BitVec.ofNat 32 (i 0).val
  let c1_i32_37 : BitVec 32 := 1#32
  let v45 : BitVec 1 := Scalar.cmpi .sge arg0 c1_i32_37
  let v46 : BitVec 32 := Scalar.extui v45
  let c0_i32_38 : BitVec 32 := 0#32
  let v47 : BitVec 1 := Scalar.cmpi .ne v46 c0_i32_38
  v47

def k0_off3 (i : grid0.Coords) : Fin 3 → Nat :=
  let c0_i32_80 : BitVec 32 := 0#32
  let c4_i32_76 : BitVec 32 := 4#32
  let arg0 : BitVec 32 := BitVec.ofNat 32 (i 0).val
  let c1_i32_75 : BitVec 32 := 1#32
  let v93 : BitVec 32 := Scalar.subi arg0 c1_i32_75
  let v94 : BitVec 32 := Scalar.muli c4_i32_76 v93
  let c1_i32_77 : BitVec 32 := 1#32
  let v95 : BitVec 32 := Scalar.addi v94 c1_i32_77
  let c0_i32_81 : BitVec 32 := 0#32
  ![0, v95.toNat, 0]
def k0_cond3 (i : grid0.Coords) : BitVec 1 :=
  let arg0 : BitVec 32 := BitVec.ofNat 32 (i 0).val
  let c1_i32_50 : BitVec 32 := 1#32
  let v60 : BitVec 1 := Scalar.cmpi .sge arg0 c1_i32_50
  let v61 : BitVec 32 := Scalar.extui v60
  let c0_i32_51 : BitVec 32 := 0#32
  let v62 : BitVec 1 := Scalar.cmpi .ne v61 c0_i32_51
  v62

def k0_off4 (i : grid0.Coords) : Fin 3 → Nat :=
  let c0_i32_80 : BitVec 32 := 0#32
  let c4_i32_76 : BitVec 32 := 4#32
  let arg0 : BitVec 32 := BitVec.ofNat 32 (i 0).val
  let c1_i32_75 : BitVec 32 := 1#32
  let v93 : BitVec 32 := Scalar.subi arg0 c1_i32_75
  let v94 : BitVec 32 := Scalar.muli c4_i32_76 v93
  let c2_i32_77 : BitVec 32 := 2#32
  let v95 : BitVec 32 := Scalar.addi v94 c2_i32_77
  let c0_i32_81 : BitVec 32 := 0#32
  ![0, v95.toNat, 0]
def k0_cond4 (i : grid0.Coords) : BitVec 1 :=
  let arg0 : BitVec 32 := BitVec.ofNat 32 (i 0).val
  let c1_i32_62 : BitVec 32 := 1#32
  let v75 : BitVec 1 := Scalar.cmpi .sge arg0 c1_i32_62
  let v76 : BitVec 32 := Scalar.extui v75
  let c0_i32_63 : BitVec 32 := 0#32
  let v77 : BitVec 1 := Scalar.cmpi .ne v76 c0_i32_63
  v77

def k0_off5 (i : grid0.Coords) : Fin 3 → Nat :=
  let c0_i32_80 : BitVec 32 := 0#32
  let c4_i32_76 : BitVec 32 := 4#32
  let arg0 : BitVec 32 := BitVec.ofNat 32 (i 0).val
  let c1_i32_75 : BitVec 32 := 1#32
  let v93 : BitVec 32 := Scalar.subi arg0 c1_i32_75
  let v94 : BitVec 32 := Scalar.muli c4_i32_76 v93
  let c3_i32_77 : BitVec 32 := 3#32
  let v95 : BitVec 32 := Scalar.addi v94 c3_i32_77
  let c0_i32_81 : BitVec 32 := 0#32
  ![0, v95.toNat, 0]
def k0_cond5 (i : grid0.Coords) : BitVec 1 :=
  let arg0 : BitVec 32 := BitVec.ofNat 32 (i 0).val
  let c49_i32 : BitVec 32 := 49#32
  let v90 : BitVec 1 := Scalar.cmpi .eq arg0 c49_i32
  let v91 : BitVec 32 := Scalar.extui v90
  let c0_i32_74 : BitVec 32 := 0#32
  let v92 : BitVec 1 := Scalar.cmpi .ne v91 c0_i32_74
  v92

def k0_off6 (i : grid0.Coords) (c0_i32_76 : BitVec 32) : Fin 3 → Nat :=
  let c0_i32_79 : BitVec 32 := 0#32
  let c4_i32_75 : BitVec 32 := 4#32
  let arg0 : BitVec 32 := BitVec.ofNat 32 (i 0).val
  let v93 : BitVec 32 := Scalar.muli c4_i32_75 arg0
  let v94 : BitVec 32 := Scalar.addi v93 c0_i32_76
  let c0_i32_80 : BitVec 32 := 0#32
  ![0, v94.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x4x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x4x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S133x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S4096x200x4 : Shape := ⟨3, ![4096, 200, 4]⟩
abbrev S4x128 : Shape := ⟨2, ![4, 128]⟩
abbrev S128 : Shape := ⟨1, ![128]⟩
abbrev S128x128 : Shape := ⟨2, ![128, 128]⟩
abbrev S24x32 : Shape := ⟨2, ![24, 32]⟩
abbrev S7x32 : Shape := ⟨2, ![7, 32]⟩
abbrev S12x32 : Shape := ⟨2, ![12, 32]⟩
abbrev S2x32 : Shape := ⟨2, ![2, 32]⟩
abbrev S4096x200x128 : Shape := ⟨3, ![4096, 200, 128]⟩
abbrev S1x1x128 : Shape := ⟨3, ![1, 1, 128]⟩
abbrev S_ : Shape := ⟨0, ![]⟩
abbrev S4096x200x1 : Shape := ⟨3, ![4096, 200, 1]⟩
abbrev S4096x200 : Shape := ⟨2, ![4096, 200]⟩
abbrev S1 : Shape := ⟨1, ![1]⟩
abbrev S1x1x1 : Shape := ⟨3, ![1, 1, 1]⟩
abbrev S4096x200x32 : Shape := ⟨3, ![4096, 200, 32]⟩

abbrev nBuf : Space → Nat
  | .hbm => 123
  | .vmem => 0
  | .smem => 0
  | _ => 0

abbrev bufTy : (tb : Table) → Fin (tcTables nBuf tb) → BufTy
  | .hbm, ⟨0, _⟩ => ⟨S4096x200x4, .f32⟩
  | .hbm, ⟨1, _⟩ => ⟨S4096x200x4, .i32⟩
  | .hbm, ⟨2, _⟩ => ⟨S4x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S24x32, .f32⟩
  | .hbm, ⟨7, _⟩ => ⟨S7x32, .f32⟩
  | .hbm, ⟨8, _⟩ => ⟨S12x32, .f32⟩
  | .hbm, ⟨9, _⟩ => ⟨S2x32, .f32⟩
  | .hbm, ⟨10, _⟩ => ⟨S4096x200x128, .f32⟩
  | .hbm, ⟨11, _⟩ => ⟨S1x1x128, .f32⟩
  | .hbm, ⟨12, _⟩ => ⟨S4096x200x128, .f32⟩
  | .hbm, ⟨13, _⟩ => ⟨S4096x200x128, .f32⟩
  | .hbm, ⟨14, _⟩ => ⟨S_, .f32⟩
  | .hbm, ⟨15, _⟩ => ⟨S4096x200x128, .f32⟩
  | .hbm, ⟨16, _⟩ => ⟨S4096x200x128, .f32⟩
  | .hbm, ⟨17, _⟩ => ⟨S4096x200x128, .f32⟩
  | .hbm, ⟨18, _⟩ => ⟨S1x1x128, .f32⟩
  | .hbm, ⟨19, _⟩ => ⟨S4096x200x128, .f32⟩
  | .hbm, ⟨20, _⟩ => ⟨S4096x200x128, .f32⟩
  | .hbm, ⟨21, _⟩ => ⟨S4096x200x1, .i32⟩
  | .hbm, ⟨22, _⟩ => ⟨S4096x200, .i32⟩
  | .hbm, ⟨23, _⟩ => ⟨S_, .i32⟩
  | .hbm, ⟨24, _⟩ => ⟨S4096x200, .i32⟩
  | .hbm, ⟨25, _⟩ => ⟨S4096x200, .i1⟩
  | .hbm, ⟨26, _⟩ => ⟨S_, .i32⟩
  | .hbm, ⟨27, _⟩ => ⟨S4096x200, .i32⟩
  | .hbm, ⟨28, _⟩ => ⟨S4096x200, .i32⟩
  | .hbm, ⟨29, _⟩ => ⟨S4096x200, .i32⟩
  | .hbm, ⟨30, _⟩ => ⟨S4096x200x1, .i32⟩
  | .hbm, ⟨31, _⟩ => ⟨S1, .i32⟩
  | .hbm, ⟨32, _⟩ => ⟨S_, .i32⟩
  | .hbm, ⟨33, _⟩ => ⟨S4096x200x1, .i32⟩
  | .hbm, ⟨34, _⟩ => ⟨S4096x200x1, .i1⟩
  | .hbm, ⟨35, _⟩ => ⟨S1x1x1, .i32⟩
  | .hbm, ⟨36, _⟩ => ⟨S4096x200x1, .i32⟩
  | .hbm, ⟨37, _⟩ => ⟨S4096x200x1, .i1⟩
  | .hbm, ⟨38, _⟩ => ⟨S4096x200x1, .i1⟩
  | .hbm, ⟨39, _⟩ => ⟨S_, .i1⟩
  | .hbm, ⟨40, _⟩ => ⟨S4096x200, .i1⟩
  | .hbm, ⟨41, _⟩ => ⟨S4096x200x32, .f32⟩
  | .hbm, ⟨42, _⟩ => ⟨S4096x200x32, .i1⟩
  | .hbm, ⟨43, _⟩ => ⟨S_, .f32⟩
  | .hbm, ⟨44, _⟩ => ⟨S4096x200x32, .f32⟩
  | .hbm, ⟨45, _⟩ => ⟨S4096x200x32, .f32⟩
  | .hbm, ⟨46, _⟩ => ⟨S4096x200x1, .i32⟩
  | .hbm, ⟨47, _⟩ => ⟨S4096x200, .i32⟩
  | .hbm, ⟨48, _⟩ => ⟨S_, .i32⟩
  | .hbm, ⟨49, _⟩ => ⟨S4096x200, .i32⟩
  | .hbm, ⟨50, _⟩ => ⟨S4096x200, .i1⟩
  | .hbm, ⟨51, _⟩ => ⟨S_, .i32⟩
  | .hbm, ⟨52, _⟩ => ⟨S4096x200, .i32⟩
  | .hbm, ⟨53, _⟩ => ⟨S4096x200, .i32⟩
  | .hbm, ⟨54, _⟩ => ⟨S4096x200, .i32⟩
  | .hbm, ⟨55, _⟩ => ⟨S4096x200x1, .i32⟩
  | .hbm, ⟨56, _⟩ => ⟨S1, .i32⟩
  | .hbm, ⟨57, _⟩ => ⟨S_, .i32⟩
  | .hbm, ⟨58, _⟩ => ⟨S4096x200x1, .i32⟩
  | .hbm, ⟨59, _⟩ => ⟨S4096x200x1, .i1⟩
  | .hbm, ⟨60, _⟩ => ⟨S1x1x1, .i32⟩
  | .hbm, ⟨61, _⟩ => ⟨S4096x200x1, .i32⟩
  | .hbm, ⟨62, _⟩ => ⟨S4096x200x1, .i1⟩
  | .hbm, ⟨63, _⟩ => ⟨S4096x200x1, .i1⟩
  | .hbm, ⟨64, _⟩ => ⟨S_, .i1⟩
  | .hbm, ⟨65, _⟩ => ⟨S4096x200, .i1⟩
  | .hbm, ⟨66, _⟩ => ⟨S4096x200x32, .f32⟩
  | .hbm, ⟨67, _⟩ => ⟨S4096x200x32, .i1⟩
  | .hbm, ⟨68, _⟩ => ⟨S_, .f32⟩
  | .hbm, ⟨69, _⟩ => ⟨S4096x200x32, .f32⟩
  | .hbm, ⟨70, _⟩ => ⟨S4096x200x32, .f32⟩
  | .hbm, ⟨71, _⟩ => ⟨S4096x200x1, .i32⟩
  | .hbm, ⟨72, _⟩ => ⟨S4096x200, .i32⟩
  | .hbm, ⟨73, _⟩ => ⟨S_, .i32⟩
  | .hbm, ⟨74, _⟩ => ⟨S4096x200, .i32⟩
  | .hbm, ⟨75, _⟩ => ⟨S4096x200, .i1⟩
  | .hbm, ⟨76, _⟩ => ⟨S_, .i32⟩
  | .hbm, ⟨77, _⟩ => ⟨S4096x200, .i32⟩
  | .hbm, ⟨78, _⟩ => ⟨S4096x200, .i32⟩
  | .hbm, ⟨79, _⟩ => ⟨S4096x200, .i32⟩
  | .hbm, ⟨80, _⟩ => ⟨S4096x200x1, .i32⟩
  | .hbm, ⟨81, _⟩ => ⟨S1, .i32⟩
  | .hbm, ⟨82, _⟩ => ⟨S_, .i32⟩
  | .hbm, ⟨83, _⟩ => ⟨S4096x200x1, .i32⟩
  | .hbm, ⟨84, _⟩ => ⟨S4096x200x1, .i1⟩
  | .hbm, ⟨85, _⟩ => ⟨S1x1x1, .i32⟩
  | .hbm, ⟨86, _⟩ => ⟨S4096x200x1, .i32⟩
  | .hbm, ⟨87, _⟩ => ⟨S4096x200x1, .i1⟩
  | .hbm, ⟨88, _⟩ => ⟨S4096x200x1, .i1⟩
  | .hbm, ⟨89, _⟩ => ⟨S_, .i1⟩
  | .hbm, ⟨90, _⟩ => ⟨S4096x200, .i1⟩
  | .hbm, ⟨91, _⟩ => ⟨S4096x200x32, .f32⟩
  | .hbm, ⟨92, _⟩ => ⟨S4096x200x32, .i1⟩
  | .hbm, ⟨93, _⟩ => ⟨S_, .f32⟩
  | .hbm, ⟨94, _⟩ => ⟨S4096x200x32, .f32⟩
  | .hbm, ⟨95, _⟩ => ⟨S4096x200x32, .f32⟩
  | .hbm, ⟨96, _⟩ => ⟨S4096x200x1, .i32⟩
  | .hbm, ⟨97, _⟩ => ⟨S4096x200, .i32⟩
  | .hbm, ⟨98, _⟩ => ⟨S_, .i32⟩
  | .hbm, ⟨99, _⟩ => ⟨S4096x200, .i32⟩
  | .hbm, ⟨100, _⟩ => ⟨S4096x200, .i1⟩
  | .hbm, ⟨101, _⟩ => ⟨S_, .i32⟩
  | .hbm, ⟨102, _⟩ => ⟨S4096x200, .i32⟩
  | .hbm, ⟨103, _⟩ => ⟨S4096x200, .i32⟩
  | .hbm, ⟨104, _⟩ => ⟨S4096x200, .i32⟩
  | .hbm, ⟨105, _⟩ => ⟨S4096x200x1, .i32⟩
  | .hbm, ⟨106, _⟩ => ⟨S1, .i32⟩
  | .hbm, ⟨107, _⟩ => ⟨S_, .i32⟩
  | .hbm, ⟨108, _⟩ => ⟨S4096x200x1, .i32⟩
  | .hbm, ⟨109, _⟩ => ⟨S4096x200x1, .i1⟩
  | .hbm, ⟨110, _⟩ => ⟨S1x1x1, .i32⟩
  | .hbm, ⟨111, _⟩ => ⟨S4096x200x1, .i32⟩
  | .hbm, ⟨112, _⟩ => ⟨S4096x200x1, .i1⟩
  | .hbm, ⟨113, _⟩ => ⟨S4096x200x1, .i1⟩
  | .hbm, ⟨114, _⟩ => ⟨S_, .i1⟩
  | .hbm, ⟨115, _⟩ => ⟨S4096x200, .i1⟩
  | .hbm, ⟨116, _⟩ => ⟨S4096x200x32, .f32⟩
  | .hbm, ⟨117, _⟩ => ⟨S4096x200x32, .i1⟩
  | .hbm, ⟨118, _⟩ => ⟨S_, .f32⟩
  | .hbm, ⟨119, _⟩ => ⟨S4096x200x32, .f32⟩
  | .hbm, ⟨120, _⟩ => ⟨S4096x200x32, .f32⟩
  | .hbm, ⟨121, _⟩ => ⟨S4096x200x128, .f32⟩
  | .hbm, ⟨122, _⟩ => ⟨S4096x200x128, .f32⟩
  | _, _ => ⟨S4096x200x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_call1_cst : Ref sig .tc := ⟨.hbm, 43, rfl⟩
abbrev main_call1_v15 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_call2_c : Ref sig .tc := ⟨.hbm, 48, rfl⟩
abbrev main_call2_v0 : Ref sig .tc := ⟨.hbm, 49, rfl⟩
abbrev main_call2_v1 : Ref sig .tc := ⟨.hbm, 50, rfl⟩
abbrev main_call2_c_0 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_c_1 : Ref sig .tc := ⟨.hbm, 56, rfl⟩
abbrev main_call2_c_2 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_3 : Ref sig .tc := ⟨.hbm, 64, rfl⟩
abbrev main_call2_v12 : Ref sig .tc := ⟨.hbm, 65, rfl⟩
abbrev main_call2_v13 : Ref sig .tc := ⟨.hbm, 66, rfl⟩
abbrev main_call2_v14 : Ref sig .tc := ⟨.hbm, 67, rfl⟩
abbrev main_call2_cst : Ref sig .tc := ⟨.hbm, 68, rfl⟩
abbrev main_call2_v15 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_call3_c : Ref sig .tc := ⟨.hbm, 73, rfl⟩
abbrev main_call3_v0 : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_v5 : Ref sig .tc := ⟨.hbm, 80, rfl⟩
abbrev main_call3_c_1 : Ref sig .tc := ⟨.hbm, 81, rfl⟩
abbrev main_call3_c_2 : Ref sig .tc := ⟨.hbm, 82, rfl⟩
abbrev main_call3_v6 : Ref sig .tc := ⟨.hbm, 83, rfl⟩
abbrev main_call3_v7 : Ref sig .tc := ⟨.hbm, 84, rfl⟩
abbrev main_call3_v8 : Ref sig .tc := ⟨.hbm, 85, rfl⟩
abbrev main_call3_v9 : Ref sig .tc := ⟨.hbm, 86, rfl⟩
abbrev main_call3_v10 : Ref sig .tc := ⟨.hbm, 87, rfl⟩
abbrev main_call3_v11 : Ref sig .tc := ⟨.hbm, 88, rfl⟩
abbrev main_call3_c_3 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_call3_cst : Ref sig .tc := ⟨.hbm, 93, rfl⟩
abbrev main_call3_v15 : Ref sig .tc := ⟨.hbm, 94, rfl⟩
abbrev main_v17 : Ref sig .tc := ⟨.hbm, 95, rfl⟩
abbrev main_v18 : Ref sig .tc := ⟨.hbm, 96, rfl⟩
abbrev main_v19 : Ref sig .tc := ⟨.hbm, 97, rfl⟩
abbrev main_call4_c : Ref sig .tc := ⟨.hbm, 98, rfl⟩
abbrev main_call4_v0 : Ref sig .tc := ⟨.hbm, 99, rfl⟩
abbrev main_call4_v1 : Ref sig .tc := ⟨.hbm, 100, rfl⟩
abbrev main_call4_c_0 : Ref sig .tc := ⟨.hbm, 101, rfl⟩
abbrev main_call4_v2 : Ref sig .tc := ⟨.hbm, 102, rfl⟩
abbrev main_call4_v3 : Ref sig .tc := ⟨.hbm, 103, rfl⟩
abbrev main_call4_v4 : Ref sig .tc := ⟨.hbm, 104, rfl⟩
abbrev main_call4_v5 : Ref sig .tc := ⟨.hbm, 105, rfl⟩
abbrev main_call4_c_1 : Ref sig .tc := ⟨.hbm, 106, rfl⟩
abbrev main_call4_c_2 : Ref sig .tc := ⟨.hbm, 107, rfl⟩
abbrev main_call4_v6 : Ref sig .tc := ⟨.hbm, 108, rfl⟩
abbrev main_call4_v7 : Ref sig .tc := ⟨.hbm, 109, rfl⟩
abbrev main_call4_v8 : Ref sig .tc := ⟨.hbm, 110, rfl⟩
abbrev main_call4_v9 : Ref sig .tc := ⟨.hbm, 111, rfl⟩
abbrev main_call4_v10 : Ref sig .tc := ⟨.hbm, 112, rfl⟩
abbrev main_call4_v11 : Ref sig .tc := ⟨.hbm, 113, rfl⟩
abbrev main_call4_c_3 : Ref sig .tc := ⟨.hbm, 114, rfl⟩
abbrev main_call4_v12 : Ref sig .tc := ⟨.hbm, 115, rfl⟩
abbrev main_call4_v13 : Ref sig .tc := ⟨.hbm, 116, rfl⟩
abbrev main_call4_v14 : Ref sig .tc := ⟨.hbm, 117, rfl⟩
abbrev main_call4_cst : Ref sig .tc := ⟨.hbm, 118, rfl⟩
abbrev main_call4_v15 : Ref sig .tc := ⟨.hbm, 119, rfl⟩
abbrev main_v20 : Ref sig .tc := ⟨.hbm, 120, rfl⟩
abbrev main_v21 : Ref sig .tc := ⟨.hbm, 121, rfl⟩
abbrev main_v22 : Ref sig .tc := ⟨.hbm, 122, rfl⟩

abbrev nD : Nat := 1
abbrev τ : Topo := Topo.v7x

variable {F : FTy → Type} [FloatOps F]
-- ==== Proof.Pieces.lean ====
/-
  The set-up of the fused kernel's hand proof: the algebra it is stated in, the two buffers the body
  addresses by pieces, the four semaphore cells, and one name for each piece.

  * the result, 4096 × 200 × 128, is written time slice by time slice: `dst u` is slice `u`, the
    elements whose middle index is `u`;
  * the ring buffer, 4 × 4096 × 128, is four tiles: `tile k` is tile `k`;
  * `csm k` is the cell on which tile `k`'s copies complete.

  Point `t` of the grid copies tile `k` to slice `4 t + k` on cell `k`, after it has waited on that cell
  for the copy that point `t - 1` made to slice `4 (t - 1) + k`. The equations below rewrite each view as
  the body spells it to these names.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameValue
public import Idealize.ShloMosaic.Lib.Ring
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The buffers and their pieces -/

/-- The result, left in HBM. -/
abbrev resM : Memref sig .tc .hbm S4096x200x128 .f32 := Memref.whole main_v37
/-- The ring buffer. -/
abbrev ringM : Memref sig .tc .vmem S4x4096x128 .f32 := Memref.whole cc0_scratch0

/-- Slice `u` of the result starts here (the last slice, for a number past it). -/
abbrev dstOff (u : ℕ) : Fin 3 → Nat := ![0, min u 199, 0]
theorem dstOff_inb (u : ℕ) : ∀ a, dstOff u a + S4096x1x128.size a ≤ S4096x200x128.size a := by
  intro a; fin_cases a
  · show 0 + 4096 ≤ 4096; omega
  · show min u 199 + 1 ≤ 200; omega
  · show 0 + 128 ≤ 128; omega
/-- Tile `k` of the ring buffer starts here. -/
abbrev tileOff (k : Fin 4) : Fin 3 → Nat := ![k.val, 0, 0]
theorem tileOff_inb (k : Fin 4) : ∀ a, tileOff k a + S1x4096x128.size a ≤ S4x4096x128.size a := by
  have := k.isLt; intro a; fin_cases a
  · show k.val + 1 ≤ 4; omega
  · show 0 + 4096 ≤ 4096; omega
  · show 0 + 128 ≤ 128; omega
abbrev semOff (k : Fin 4) : Fin 1 → Nat := ![k.val]
theorem semOff_inb (k : Fin 4) : ∀ a, semOff k a + S1.size a ≤ S4.size a := by
  have := k.isLt; intro a; fin_cases a; show k.val + 1 ≤ 4; omega

/-- Slice `u` of the result as a 4096 × 128 array. -/
def dst (u : ℕ) : Memref sig .tc .hbm S4096x128 .f32 :=
  (resM.slice (Rect.unit (s := S4096x200x128) (dstOff u) S4096x1x128.size (dstOff_inb u)) (fun _ => rfl)).squeeze S4096x128 squeezes_S4096x1x128_S4096x128
/-- Tile `k` of the ring buffer as a 4096 × 128 array. -/
def tile (k : Fin 4) : Memref sig .tc .vmem S4096x128 .f32 :=
  (ringM.slice (Rect.unit (s := S4x4096x128) (tileOff k) S1x4096x128.size (tileOff_inb k)) (fun _ => rfl)).squeeze S4096x128 squeezes_S1x4096x128_S4096x128
/-- Tile `k`'s cell. -/
def csm (k : Fin 4) : DmaSems sig S_ := (cc0_scratch1.slice (Rect.unit (s := S4) (semOff k) S1.size (semOff_inb k))).squeeze S_ squeezes_S1_S_

instance (k : Fin 4) : ClosedOff (tileOff k) := ⟨tileOff k, rfl⟩
instance (u : ℕ) : ClosedOff (dstOff u) := ⟨dstOff u, rfl⟩

/-! ## The body's offsets and conditions at point `t` -/

theorem off2_0 : ∀ t : Fin cfg0.N, k0_off2 (grid0.coords t) 0#32 = dstOff (4 * t.val) := by decide +kernel
theorem off2_1 : ∀ t : Fin cfg0.N, k0_off2 (grid0.coords t) 1#32 = dstOff (4 * t.val + 1) := by decide +kernel
theorem off2_2 : ∀ t : Fin cfg0.N, k0_off2 (grid0.coords t) 2#32 = dstOff (4 * t.val + 2) := by decide +kernel
theorem off2_3 : ∀ t : Fin cfg0.N, k0_off2 (grid0.coords t) 3#32 = dstOff (4 * t.val + 3) := by decide +kernel
theorem off1_eq : ∀ t : Fin cfg0.N, t.val ≠ 0 → k0_off1 (grid0.coords t) = dstOff (4 * (t.val - 1)) := by decide +kernel
theorem off3_eq : ∀ t : Fin cfg0.N, t.val ≠ 0 → k0_off3 (grid0.coords t) = dstOff (4 * (t.val - 1) + 1) := by decide +kernel
theorem off4_eq : ∀ t : Fin cfg0.N, t.val ≠ 0 → k0_off4 (grid0.coords t) = dstOff (4 * (t.val - 1) + 2) := by decide +kernel
theorem off5_eq : ∀ t : Fin cfg0.N, t.val ≠ 0 → k0_off5 (grid0.coords t) = dstOff (4 * (t.val - 1) + 3) := by decide +kernel
theorem off6_0 : ∀ t : Fin cfg0.N, k0_off6 (grid0.coords t) 0#32 = dstOff (4 * t.val) := by decide +kernel
theorem off6_1 : ∀ t : Fin cfg0.N, k0_off6 (grid0.coords t) 1#32 = dstOff (4 * t.val + 1) := by decide +kernel
theorem off6_2 : ∀ t : Fin cfg0.N, k0_off6 (grid0.coords t) 2#32 = dstOff (4 * t.val + 2) := by decide +kernel
theorem off6_3 : ∀ t : Fin cfg0.N, k0_off6 (grid0.coords t) 3#32 = dstOff (4 * t.val + 3) := by decide +kernel

/-- The four waits run at every point but the first; -/
theorem cond1_iff : ∀ t : Fin cfg0.N, k0_cond1 (grid0.coords t) = 1#1 ↔ t.val ≠ 0 := by decide +kernel
theorem cond2_iff : ∀ t : Fin cfg0.N, k0_cond2 (grid0.coords t) = 1#1 ↔ t.val ≠ 0 := by decide +kernel
theorem cond3_iff : ∀ t : Fin cfg0.N, k0_cond3 (grid0.coords t) = 1#1 ↔ t.val ≠ 0 := by decide +kernel
theorem cond4_iff : ∀ t : Fin cfg0.N, k0_cond4 (grid0.coords t) = 1#1 ↔ t.val ≠ 0 := by decide +kernel
/-- the drain runs at the last. -/
theorem cond5_iff : ∀ t : Fin cfg0.N, k0_cond5 (grid0.coords t) = 1#1 ↔ t.val = 49 := by decide +kernel

/-! ## The body's views are the named pieces -/

section Canon

theorem csm_congr {off : Fin 1 → Nat} {k : Fin 4} (e : off = semOff k) (hh) :
    (cc0_scratch1.slice (Rect.unit (s := S4) off S1.size hh)).squeeze S_ squeezes_S1_S_ = csm k :=
  congrArg (fun A : DmaSems sig S1 => A.squeeze S_ squeezes_S1_S_) (SemArray.slice_unit_congr _ e _ _)
theorem tile_congr {off : Fin 3 → Nat} {k : Fin 4} (e : off = tileOff k) (hh hs) :
    (ringM.slice (Rect.unit (s := S4x4096x128) off S1x4096x128.size hh) hs).squeeze S4096x128 squeezes_S1x4096x128_S4096x128 = tile k :=
  congrArg (fun M : Memref sig .tc .vmem S1x4096x128 .f32 => M.squeeze S4096x128 squeezes_S1x4096x128_S4096x128) (Memref.slice_unit_congr _ e _ _ _ _)
theorem dst_congr {off : Fin 3 → Nat} {u : ℕ} (e : off = dstOff u) (hh hs) :
    (resM.slice (Rect.unit (s := S4096x200x128) off S4096x1x128.size hh) hs).squeeze S4096x128 squeezes_S4096x1x128_S4096x128 = dst u :=
  congrArg (fun M : Memref sig .tc .hbm S4096x1x128 .f32 => M.squeeze S4096x128 squeezes_S4096x1x128_S4096x128) (Memref.slice_unit_congr _ e _ _ _ _)

@[sl_canon] theorem sem0 (hh) : (cc0_scratch1.slice (Rect.unit (s := S4) ![0] S1.size hh)).squeeze S_ squeezes_S1_S_ = csm 0 := csm_congr (by decide) _
@[sl_canon] theorem sem1 (hh) : (cc0_scratch1.slice (Rect.unit (s := S4) ![1] S1.size hh)).squeeze S_ squeezes_S1_S_ = csm 1 := csm_congr (by decide) _
@[sl_canon] theorem sem2 (hh) : (cc0_scratch1.slice (Rect.unit (s := S4) ![2] S1.size hh)).squeeze S_ squeezes_S1_S_ = csm 2 := csm_congr (by decide) _
@[sl_canon] theorem sem3 (hh) : (cc0_scratch1.slice (Rect.unit (s := S4) ![3] S1.size hh)).squeeze S_ squeezes_S1_S_ = csm 3 := csm_congr (by decide) _
@[sl_canon] theorem tile0 (hh hs) : (ringM.slice (Rect.unit (s := S4x4096x128) ![0, 0, 0] S1x4096x128.size hh) hs).squeeze S4096x128 squeezes_S1x4096x128_S4096x128 = tile 0 := tile_congr (by decide) _ _
@[sl_canon] theorem tile1 (hh hs) : (ringM.slice (Rect.unit (s := S4x4096x128) ![1, 0, 0] S1x4096x128.size hh) hs).squeeze S4096x128 squeezes_S1x4096x128_S4096x128 = tile 1 := tile_congr (by decide) _ _
@[sl_canon] theorem tile2 (hh hs) : (ringM.slice (Rect.unit (s := S4x4096x128) ![2, 0, 0] S1x4096x128.size hh) hs).squeeze S4096x128 squeezes_S1x4096x128_S4096x128 = tile 2 := tile_congr (by decide) _ _
@[sl_canon] theorem tile3 (hh hs) : (ringM.slice (Rect.unit (s := S4x4096x128) ![3, 0, 0] S1x4096x128.size hh) hs).squeeze S4096x128 squeezes_S1x4096x128_S4096x128 = tile 3 := tile_congr (by decide) _ _

variable (t : Fin cfg0.N)

/-- The slices point `t` copies to, -/
@[sl_canon] theorem to0 (hh hs) : (resM.slice (Rect.unit (s := S4096x200x128) (k0_off2 (grid0.coords t) 0#32) S4096x1x128.size hh) hs).squeeze S4096x128 squeezes_S4096x1x128_S4096x128 = dst (4 * t.val) := dst_congr (off2_0 t) _ _
@[sl_canon] theorem to1 (hh hs) : (resM.slice (Rect.unit (s := S4096x200x128) (k0_off2 (grid0.coords t) 1#32) S4096x1x128.size hh) hs).squeeze S4096x128 squeezes_S4096x1x128_S4096x128 = dst (4 * t.val + 1) := dst_congr (off2_1 t) _ _
@[sl_canon] theorem to2 (hh hs) : (resM.slice (Rect.unit (s := S4096x200x128) (k0_off2 (grid0.coords t) 2#32) S4096x1x128.size hh) hs).squeeze S4096x128 squeezes_S4096x1x128_S4096x128 = dst (4 * t.val + 2) := dst_congr (off2_2 t) _ _
@[sl_canon] theorem to3 (hh hs) : (resM.slice (Rect.unit (s := S4096x200x128) (k0_off2 (grid0.coords t) 3#32) S4096x1x128.size hh) hs).squeeze S4096x128 squeezes_S4096x1x128_S4096x128 = dst (4 * t.val + 3) := dst_congr (off2_3 t) _ _
/-- those it waits for, of the point before, -/
@[sl_canon] theorem was0 (h : t.val ≠ 0) (hh hs) : (resM.slice (Rect.unit (s := S4096x200x128) (k0_off1 (grid0.coords t)) S4096x1x128.size hh) hs).squeeze S4096x128 squeezes_S4096x1x128_S4096x128 = dst (4 * (t.val - 1)) := dst_congr (off1_eq t h) _ _
@[sl_canon] theorem was1 (h : t.val ≠ 0) (hh hs) : (resM.slice (Rect.unit (s := S4096x200x128) (k0_off3 (grid0.coords t)) S4096x1x128.size hh) hs).squeeze S4096x128 squeezes_S4096x1x128_S4096x128 = dst (4 * (t.val - 1) + 1) := dst_congr (off3_eq t h) _ _
@[sl_canon] theorem was2 (h : t.val ≠ 0) (hh hs) : (resM.slice (Rect.unit (s := S4096x200x128) (k0_off4 (grid0.coords t)) S4096x1x128.size hh) hs).squeeze S4096x128 squeezes_S4096x1x128_S4096x128 = dst (4 * (t.val - 1) + 2) := dst_congr (off4_eq t h) _ _
@[sl_canon] theorem was3 (h : t.val ≠ 0) (hh hs) : (resM.slice (Rect.unit (s := S4096x200x128) (k0_off5 (grid0.coords t)) S4096x1x128.size hh) hs).squeeze S4096x128 squeezes_S4096x1x128_S4096x128 = dst (4 * (t.val - 1) + 3) := dst_congr (off5_eq t h) _ _
/-- and those the last point drains. -/
@[sl_canon] theorem end0 (hh hs) : (resM.slice (Rect.unit (s := S4096x200x128) (k0_off6 (grid0.coords t) 0#32) S4096x1x128.size hh) hs).squeeze S4096x128 squeezes_S4096x1x128_S4096x128 = dst (4 * t.val) := dst_congr (off6_0 t) _ _
@[sl_canon] theorem end1 (hh hs) : (resM.slice (Rect.unit (s := S4096x200x128) (k0_off6 (grid0.coords t) 1#32) S4096x1x128.size hh) hs).squeeze S4096x128 squeezes_S4096x1x128_S4096x128 = dst (4 * t.val + 1) := dst_congr (off6_1 t) _ _
@[sl_canon] theorem end2 (hh hs) : (resM.slice (Rect.unit (s := S4096x200x128) (k0_off6 (grid0.coords t) 2#32) S4096x1x128.size hh) hs).squeeze S4096x128 squeezes_S4096x1x128_S4096x128 = dst (4 * t.val + 2) := dst_congr (off6_2 t) _ _
@[sl_canon] theorem end3 (hh hs) : (resM.slice (Rect.unit (s := S4096x200x128) (k0_off6 (grid0.coords t) 3#32) S4096x1x128.size hh) hs).squeeze S4096x128 squeezes_S4096x1x128_S4096x128 = dst (4 * t.val + 3) := dst_congr (off6_3 t) _ _

end Canon

/-! ## The pieces as resources -/

section Resources
variable (c : Dev nD)

abbrev ResBuf : Type := Buf (Elt F) (resM.view.loc (c : Thread nD τ))
abbrev RingBuf : Type := Buf (Elt F) (ringM.view.loc (c : Thread nD τ))

/-- Contents of the whole result, as contents of the buffer slice `u` lies in. -/
def onDst (u : ℕ) (g : ResBuf (F := F) c) : Buf (Elt F) ((dst u).view.loc (c : Thread nD τ)) := g
/-- Contents of the whole ring buffer, as contents of the buffer tile `k` lies in. -/
def onTile (k : Fin 4) (f : RingBuf (F := F) c) : Buf (Elt F) ((tile k).view.loc (c : Thread nD τ)) := f

/-- Cell `k` at zero, no copy on it. -/
abbrev cellP (k : Fin 4) : sProp 𝕄 := semVal ((c : Thread nD τ), SemLoc.dma (csm k).sem) 0
/-- Tile `k` held at `f`. -/
abbrev tileP (k : Fin 4) (f : Buf (Elt F) ((tile k).view.loc (c : Thread nD τ))) : sProp 𝕄 :=
  (tile k).view.loc (c : Thread nD τ) ↦[(tile k).view.set]{fullShare} f
/-- Slice `u` of the result held at `f`. -/
abbrev dstP (u : ℕ) (f : Buf (Elt F) ((dst u).view.loc (c : Thread nD τ))) : sProp 𝕄 :=
  (dst u).view.loc (c : Thread nD τ) ↦[(dst u).view.set]{fullShare} f
/-- The units one copy of a tile moves on its cell. -/
abbrev NN : ℕ := 65536
/-- A copy of tile `k` to slice `u` in flight, to leave the slice at `g` and the tile at `f`. -/
abbrev flightP (k : Fin 4) (u : ℕ) (g : Buf (Elt F) ((dst u).view.loc (c : Thread nD τ)))
    (f : Buf (Elt F) ((tile k).view.loc (c : Thread nD τ))) : sProp 𝕄 :=
  Transfers.Flight countersEmb (c : Thread nD τ) (SemLoc.dma (csm k).sem) () NN iprop(dstP c u g ∗ tileP c k f)

end Resources

end Cert.KernelIdeal.Hand

end
-- ==== Proof.Deliver.lean ====
/-
  What the kernel writes, as arrays.

  A point computes one 16384 × 128 array from its four blocks (`outMat`); tile `k` of it is rows
  `4096 k` to `4096 k + 4095`. The result after the whole grid is `resultOf`: at time slice `u` it holds
  tile `u % 4` of the array of point `u / 4`.

  `delivered` is the step the whole run rests on: a copy of a tile into which the body has stored tile `k`
  of point `n`'s array leaves in slice `4 n + k` exactly what `resultOf` says.
-/
module

public import proofs.«01_k».proof.Proof.Pieces
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The arrays -/

/-- The 16384 × 128 array a point computes from its blocks: the features of its four time steps, the
    calendar entries, the first layer with its bias column, the second layer with its extra rows. -/
def outMat (d1 : Vec F S4x4x4096 .f32) (d2 : Vec F S4x4x4096 .i32) (d3 : Vec F S128x5 .f32) (d4 : Vec F S133x128 .f32) :
    FVec F S16384x128 .f32 :=
  k0_pay2
    (k0_pay1
      (View.ld d1 (Rect.unit (s := S4x4x4096) ![0, 0, 0] S1x4x4096.size inb_S4x4x4096_S1x4x4096_0_0_0))
      (View.ld d1 (Rect.unit (s := S4x4x4096) ![1, 0, 0] S1x4x4096.size inb_S4x4x4096_S1x4x4096_1_0_0))
      (View.ld d1 (Rect.unit (s := S4x4x4096) ![2, 0, 0] S1x4x4096.size inb_S4x4x4096_S1x4x4096_2_0_0))
      (View.ld d1 (Rect.unit (s := S4x4x4096) ![3, 0, 0] S1x4x4096.size inb_S4x4x4096_S1x4x4096_3_0_0))
      (View.ld d2 (Rect.unit (s := S4x4x4096) ![0, 0, 0] S1x4x4096.size inb_S4x4x4096_S1x4x4096_0_0_0))
      (View.ld d2 (Rect.unit (s := S4x4x4096) ![1, 0, 0] S1x4x4096.size inb_S4x4x4096_S1x4x4096_1_0_0))
      (View.ld d2 (Rect.unit (s := S4x4x4096) ![2, 0, 0] S1x4x4096.size inb_S4x4x4096_S1x4x4096_2_0_0))
      (View.ld d2 (Rect.unit (s := S4x4x4096) ![3, 0, 0] S1x4x4096.size inb_S4x4x4096_S1x4x4096_3_0_0))
      (View.ld d3 (Rect.unit (s := S128x5) ![0, 0] S128x5.size inb_S128x5_S128x5_0_0)))
    (View.ld d4 (Rect.unit (s := S133x128) ![0, 0] S133x128.size inb_S133x128_S133x128_0_0))

/-- Tile `k` of a point's array: its rows from `4096 k`. -/
def tileVal (o : FVec F S16384x128 .f32) (k : Fin 4) : Vec F S4096x128 .f32 :=
  fun x => o (ix2 ⟨4096 * k.val + (x 0).val, by
    have h : (x 0).val < 4096 := (x 0).isLt
    have := k.isLt; omega⟩ (x 1))

/-- The result when point `n` computes `o n`: slice `u` is tile `u % 4` of the array of point `u / 4`. -/
def resultOf (c : Dev nD) (o : ℕ → FVec F S16384x128 .f32) : ResBuf (F := F) c :=
  fun i => o ((i 1).val / 4) (ix2 ⟨4096 * ((i 1).val % 4) + (i 0).val, by
    have h : (i 0).val < 4096 := (i 0).isLt
    have := Nat.mod_lt (i 1).val (show 0 < 4 by decide); omega⟩ (i 2))

/-! ## The stored tiles -/

variable (v26 : FVec F S133x16384 .f32) (v27 : Vec F S133x128 .f32) (v29 : FVec F S16384x128 .f32)

/-- What the body stores in tile 0, read as a 4096 × 128 array, is tile 0 of the point's array; -/
theorem stored0 (h : S1x4096x128.ShapeCasts S4096x128) : shapeCast S4096x128 (k0_pay3 v26 v27) h = tileVal (k0_pay2 v26 v27) 0 := by
  unfold k0_pay3; refine (shapeCast_shapeCast _ _ _).trans (funext fun x => ?_)
  exact congrArg (k0_pay2 v26 v27) (funext fun a => by fin_cases a <;> exact Fin.ext (by simp [ix2]))
/-- in tile 1, tile 1; -/
theorem stored1 (h : S1x4096x128.ShapeCasts S4096x128) : shapeCast S4096x128 (k0_pay4 v26 v27) h = tileVal (k0_pay2 v26 v27) 1 := by
  unfold k0_pay4; refine (shapeCast_shapeCast _ _ _).trans (funext fun x => ?_)
  exact congrArg (k0_pay2 v26 v27) (funext fun a => by fin_cases a <;> exact Fin.ext (by simp [ix2]))
/-- in tile 2, tile 2; -/
theorem stored2 (h : S1x4096x128.ShapeCasts S4096x128) : shapeCast S4096x128 (k0_pay5 v29) h = tileVal v29 2 := by
  unfold k0_pay5; refine (shapeCast_shapeCast _ _ _).trans (funext fun x => ?_)
  exact congrArg v29 (funext fun a => by fin_cases a <;> exact Fin.ext (by simp [ix2]))
/-- in tile 3, tile 3. -/
theorem stored3 (h : S1x4096x128.ShapeCasts S4096x128) : shapeCast S4096x128 (k0_pay6 v29) h = tileVal v29 3 := by
  unfold k0_pay6; refine (shapeCast_shapeCast _ _ _).trans (funext fun x => ?_)
  exact congrArg v29 (funext fun a => by fin_cases a <;> exact Fin.ext (by simp [ix2]))

/-! ## What a copy delivers -/

section Delivery
variable (c : Dev nD) (o : ℕ → FVec F S16384x128 .f32)

theorem drop1 : S4096x1x128.ShapeCasts S4096x128 := by decide
theorem drop0 : S1x4096x128.ShapeCasts S4096x128 := by decide

/-- Slice `4 n + k` of the result is tile `k` of point `n`'s array. -/
theorem read_result (n : ℕ) (hn : n < 50) (k : Fin 4) (u : ℕ) (hu : u = 4 * n + k.val) :
    (dst u).view.read (Elt F) (onDst c u (resultOf c o)) = tileVal (o n) k := by
  have hk := k.isLt
  refine (Memref.read_squeeze_slice resM (Rect.unit (s := S4096x200x128) (dstOff u) S4096x1x128.size (dstOff_inb u)) (fun _ => rfl)
    squeezes_S4096x1x128_S4096x128 drop1 (resultOf c o)).trans (funext fun x => ?_)
  have h0 : (x 0).val < 4096 := (x 0).isLt
  have h1 : (x 1).val < 128 := (x 1).isLt
  refine (shapeCast_apply _ drop1 x (ix3 (x 0) 0 (x 1)) ?_).trans ?_
  · rw [Shape.rowMajor_val_three, Shape.rowMajor_val_two]
    simp [ix3]
  · have e : (Rect.unit (s := S4096x200x128) (dstOff u) S4096x1x128.size (dstOff_inb u)).toLoadRect.idx (ix3 (x 0) 0 (x 1))
        = (ix3 ⟨(x 0).val, h0⟩ ⟨u, by omega⟩ ⟨(x 1).val, h1⟩ : S4096x200x128.Idx) := by
      funext a; fin_cases a <;> apply Fin.ext
      · show 0 + 1 * (x 0).val = (x 0).val; omega
      · show min u 199 + 1 * 0 = u; omega
      · show 0 + 1 * (x 1).val = (x 1).val; omega
    show resultOf c o _ = _
    refine (congrArg (resultOf c o) e).trans ?_
    have hd : (4 * n + k.val) / 4 = n := by omega
    have hm : (4 * n + k.val) % 4 = k.val := by omega
    subst hu
    show o ((4 * n + k.val) / 4) (ix2 ⟨4096 * ((4 * n + k.val) % 4) + (x 0).val, _⟩ ⟨(x 1).val, h1⟩) = o n (ix2 ⟨4096 * k.val + (x 0).val, _⟩ (x 1))
    simp only [hd, hm]; rfl

/-- Contents that read alike through a view agree on the view's elements. -/
theorem agree_of_read {sp : Space} {s : Shape} {e : EltTy} (v : View sig .tc sp s e) (f g : v.ty.Contents (Elt F))
    (h : v.read (Elt F) f = v.read (Elt F) g) : ∀ i ∈ v.set, f i = g i := by
  intro i hi
  obtain ⟨x, -, rfl⟩ := Finset.mem_map.mp hi
  have := congrFun h x
  rw [View.read_apply, View.read_apply] at this
  exact (Equiv.cast _).injective this

/-- A copy of tile `k`, into which the body stored `pay`, to slice `u`: where `pay` is tile `k` of point
    `n`'s array and `u = 4 n + k`, the slice holds what the result says. -/
theorem delivered (n : ℕ) (hn : n < 50) (k : Fin 4) (u : ℕ) (hu : u = 4 * n + k.val)
    (w : Buf (Elt F) ((dst u).view.loc (c : Thread nD τ))) (f : (ringM.access (Rect.unit (s := S4x4096x128) (tileOff k) S1x4096x128.size (tileOff_inb k))).ty.Contents (Elt F))
    (pay : FVec F S1x4096x128 .f32) (hpay : shapeCast S4096x128 pay drop0 = tileVal (o n) k) :
    dstP c u ((dst u).view.writes (Elt F) w [⟨Rect.whole S4096x128, ReadAs.same.apply ((tile k).view.read (Elt F)
        ((ringM.access (Rect.unit (s := S4x4096x128) (tileOff k) S1x4096x128.size (tileOff_inb k))).write (Elt F) f pay Finset.univ))⟩])
      = dstP c u (onDst c u (resultOf c o)) := by
  refine pointsTo_congr (agree_of_read (dst u).view _ _ ?_)
  refine (View.read_writes_whole (dst u).view w _).trans ?_
  rw [read_result c o n hn k u hu, ← hpay]
  refine (Memref.read_squeeze_slice ringM (Rect.unit (s := S4x4096x128) (tileOff k) S1x4096x128.size (tileOff_inb k)) (fun _ => rfl)
    squeezes_S1x4096x128_S4096x128 drop0 _).trans ?_
  exact congrArg (shapeCast S4096x128 · drop0) (View.read_write_univ _ _)

/-- A copy in flight that is to leave its slice at contents equal, as a resource, to `g`, is one that is to
    leave it at `g`. -/
theorem flight_to (k : Fin 4) (u : ℕ) {g' g : Buf (Elt F) ((dst u).view.loc (c : Thread nD τ))}
    (f : Buf (Elt F) ((tile k).view.loc (c : Thread nD τ))) (h : dstP c u g' = dstP c u g) :
    flightP c k u g' f ⊢ iprop(∃ f, flightP c k u g f) := by
  unfold flightP; rw [h]
  iintro H; iexists _; iexact H

end Delivery

end Cert.KernelIdeal.Hand

end
-- ==== Proof.Body.lean ====
/-
  One run of the kernel body, at the first point of the grid, at a middle one and at the last.

  At every point the body computes its array, stores tile `k` into the ring buffer and starts the copy of
  tile `k` to slice `4 t + k`. Before it stores, every point but the first waits for the copy the point
  before made of that tile; after it has started its copies, the last point waits for all four.
-/
module

public import proofs.«01_k».proof.Proof.Deliver

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Body

variable (c : Dev nD)

/-- The four copies of point `p`, in flight: each is to leave its slice at `G` and its tile at something. -/
def inFlight (G : ResBuf (F := F) c) (p : ℕ) : sProp 𝕄 :=
  iprop((∃ f, flightP c 0 (4 * p) (onDst c (4 * p) G) f) ∗ (∃ f, flightP c 1 (4 * p + 1) (onDst c (4 * p + 1) G) f)
    ∗ (∃ f, flightP c 2 (4 * p + 2) (onDst c (4 * p + 2) G) f) ∗ (∃ f, flightP c 3 (4 * p + 3) (onDst c (4 * p + 3) G) f))
/-- The four slices of point `p`, held at `g`. -/
def slices (g : ResBuf (F := F) c) (p : ℕ) : sProp 𝕄 :=
  iprop(dstP c (4 * p) (onDst c (4 * p) g) ∗ dstP c (4 * p + 1) (onDst c (4 * p + 1) g)
    ∗ dstP c (4 * p + 2) (onDst c (4 * p + 2) g) ∗ dstP c (4 * p + 3) (onDst c (4 * p + 3) g))
/-- The four tiles held at something, the four cells at zero. -/
def idle : sProp 𝕄 :=
  iprop(((∃ f, tileP (F := F) c 0 f) ∗ (∃ f, tileP (F := F) c 1 f) ∗ (∃ f, tileP (F := F) c 2 f) ∗ ∃ f, tileP (F := F) c 3 f)
    ∗ cellP (F := F) c 0 ∗ cellP (F := F) c 1 ∗ cellP (F := F) c 2 ∗ cellP (F := F) c 3)

variable (t : Fin cfg0.N)
  (arg1 : Memref sig .tc .vmem S4x4x4096 .f32) (harg1 : arg1.IsWhole)
  (arg2 : Memref sig .tc .vmem S4x4x4096 .i32) (harg2 : arg2.IsWhole)
  (arg3 : Memref sig .tc .vmem S128x5 .f32) (harg3 : arg3.IsWhole)
  (arg4 : Memref sig .tc .vmem S133x128 .f32) (harg4 : arg4.IsWhole)

/-- The body at point `t`, over the result and the ring buffer. -/
abbrev bodyG : Prog (TpuEff nD τ sig (Elt F) Λ₀ .tc) PUnit :=
  cc0__fused_body (grid0.coords t) arg1 harg1 arg2 harg2 arg3 harg3 arg4 harg4 resM (Memref.isWhole_whole _) ringM (Memref.isWhole_whole _) cc0_scratch1

variable (x1 : Buf (Elt F) (arg1.view.loc (c : Thread nD τ))) (x2 : Buf (Elt F) (arg2.view.loc (c : Thread nD τ)))
  (x3 : Buf (Elt F) (arg3.view.loc (c : Thread nD τ))) (x4 : Buf (Elt F) (arg4.view.loc (c : Thread nD τ)))

/-- The four blocks, held. -/
def blocks : sProp 𝕄 :=
  iprop((arg1.view.loc (c : Thread nD τ) ↦[arg1.view.set]{fullShare} x1)
      ∗ (arg2.view.loc (c : Thread nD τ) ↦[arg2.view.set]{fullShare} x2)
      ∗ (arg3.view.loc (c : Thread nD τ) ↦[arg3.view.set]{fullShare} x3)
      ∗ (arg4.view.loc (c : Thread nD τ) ↦[arg4.view.set]{fullShare} x4))

variable (V : ResBuf (F := F) c) (o : ℕ → FVec F S16384x128 .f32)
  (ho : o t.val = outMat (arg1.view.read (Elt F) x1) (arg2.view.read (Elt F) x2) (arg3.view.read (Elt F) x3) (arg4.view.read (Elt F) x4))
  (W : Waits sig Unit)

include ho in
set_option maxHeartbeats 1000000 in
/-- A middle point: it receives the copies of the point before, and leaves its own in flight. -/
theorem middle (h0 : t.val ≠ 0) (h49 : t.val ≠ 49) (K : PUnit → sProp 𝕄) :
    iprop(blocks c arg1 arg2 arg3 arg4 x1 x2 x3 x4
      ∗ inFlight c (resultOf c o) (t.val - 1) ∗ slices c V t.val ∗ owes (c : Thread nD τ) 0 W
      ∗ (blocks c arg1 arg2 arg3 arg4 x1 x2 x3 x4 -∗ slices c (resultOf c o) (t.val - 1) -∗ inFlight c (resultOf c o) t.val
          -∗ (∃ W', owes (c : Thread nD τ) 0 W') -∗ K ⟨⟩))
      ⊢ wp frame (wpE (defs₀ (F := F)) Variants.none c none) Set.univ (bodyG t arg1 harg1 arg2 harg2 arg3 harg3 arg4 harg4) K := by
  have c1 := (cond1_iff t).mpr h0
  have c2 := (cond2_iff t).mpr h0
  have c3 := (cond3_iff t).mpr h0
  have c4 := (cond4_iff t).mpr h0
  have c5 : ¬ k0_cond5 (grid0.coords t) = 1#1 := fun h => h49 ((cond5_iff t).mp h)
  have ht : t.val < 50 := lt_of_lt_of_eq t.isLt N_0
  unfold bodyG blocks inFlight slices; rw [cc0__fused_body_eq_skeleton]; unfold cc0__fused_body_skel
  rw [k0_part1_eq_skeleton, k0_part2_eq_skeleton, k0_part3_eq_skeleton, k0_part4_eq_skeleton]
  iintro ⟨⟨H1, H2, H3, H4⟩, ⟨⟨%f0, F0⟩, ⟨%f1, F1⟩, ⟨%f2, F2⟩, ⟨%f3, F3⟩⟩, ⟨D0, D1, D2, D3⟩, HW, Hk⟩
  sl_exec
  sl_step
  have e0 := delivered c o t.val ht 0 (4 * t.val) rfl (onDst c (4 * t.val) V) f0 _ ((stored0 _ _ _).trans (congrArg (tileVal · 0) ho.symm))
  have e1 := delivered c o t.val ht 1 (4 * t.val + 1) rfl (onDst c (4 * t.val + 1) V) f1 _ ((stored1 _ _ _).trans (congrArg (tileVal · 1) ho.symm))
  have e2 := delivered c o t.val ht 2 (4 * t.val + 2) rfl (onDst c (4 * t.val + 2) V) f2 _ ((stored2 _ _).trans (congrArg (tileVal · 2) ho.symm))
  have e3 := delivered c o t.val ht 3 (4 * t.val + 3) rfl (onDst c (4 * t.val + 3) V) f3 _ ((stored3 _ _).trans (congrArg (tileVal · 3) ho.symm))
  iapply Hk $$ [H1 H2 H3 H4] [F0_dst F1_dst F2_dst F3_dst] [F0 F1 F2 F3] [HW]
  · iframe
  · iframe
  · isplitl [F0]
    · exact flight_to c 0 (4 * t.val) _ e0
    isplitl [F1]
    · exact flight_to c 1 (4 * t.val + 1) _ e1
    isplitl [F2]
    · exact flight_to c 2 (4 * t.val + 2) _ e2
    · exact flight_to c 3 (4 * t.val + 3) _ e3
  · iexists _; iexact HW

include ho in
set_option maxHeartbeats 1000000 in
/-- The first point: it starts its copies from the idle ring buffer. -/
theorem first (h0 : t.val = 0) (K : PUnit → sProp 𝕄) :
    iprop(blocks c arg1 arg2 arg3 arg4 x1 x2 x3 x4
      ∗ idle (F := F) c ∗ slices c V t.val ∗ owes (c : Thread nD τ) 0 W
      ∗ (blocks c arg1 arg2 arg3 arg4 x1 x2 x3 x4 -∗ inFlight c (resultOf c o) t.val -∗ (∃ W', owes (c : Thread nD τ) 0 W') -∗ K ⟨⟩))
      ⊢ wp frame (wpE (defs₀ (F := F)) Variants.none c none) Set.univ (bodyG t arg1 harg1 arg2 harg2 arg3 harg3 arg4 harg4) K := by
  have c1 : ¬ k0_cond1 (grid0.coords t) = 1#1 := fun h => (cond1_iff t).mp h h0
  have c2 : ¬ k0_cond2 (grid0.coords t) = 1#1 := fun h => (cond2_iff t).mp h h0
  have c3 : ¬ k0_cond3 (grid0.coords t) = 1#1 := fun h => (cond3_iff t).mp h h0
  have c4 : ¬ k0_cond4 (grid0.coords t) = 1#1 := fun h => (cond4_iff t).mp h h0
  have c5 : ¬ k0_cond5 (grid0.coords t) = 1#1 := fun h => by have := (cond5_iff t).mp h; omega
  have ht : t.val < 50 := lt_of_lt_of_eq t.isLt N_0
  unfold bodyG blocks inFlight slices idle; rw [cc0__fused_body_eq_skeleton]; unfold cc0__fused_body_skel
  rw [k0_part1_eq_skeleton, k0_part2_eq_skeleton, k0_part3_eq_skeleton, k0_part4_eq_skeleton]
  iintro ⟨⟨H1, H2, H3, H4⟩, ⟨⟨⟨%f0, R0⟩, ⟨%f1, R1⟩, ⟨%f2, R2⟩, ⟨%f3, R3⟩⟩, C0, C1, C2, C3⟩, ⟨D0, D1, D2, D3⟩, HW, Hk⟩
  sl_exec
  sl_step
  have e0 := delivered c o t.val ht 0 (4 * t.val) rfl (onDst c (4 * t.val) V) f0 _ ((stored0 _ _ _).trans (congrArg (tileVal · 0) ho.symm))
  have e1 := delivered c o t.val ht 1 (4 * t.val + 1) rfl (onDst c (4 * t.val + 1) V) f1 _ ((stored1 _ _ _).trans (congrArg (tileVal · 1) ho.symm))
  have e2 := delivered c o t.val ht 2 (4 * t.val + 2) rfl (onDst c (4 * t.val + 2) V) f2 _ ((stored2 _ _).trans (congrArg (tileVal · 2) ho.symm))
  have e3 := delivered c o t.val ht 3 (4 * t.val + 3) rfl (onDst c (4 * t.val + 3) V) f3 _ ((stored3 _ _).trans (congrArg (tileVal · 3) ho.symm))
  iapply Hk $$ [H1 H2 H3 H4] [C0 C1 C2 C3] [HW]
  · iframe
  · isplitl [C0]
    · exact flight_to c 0 (4 * t.val) _ e0
    isplitl [C1]
    · exact flight_to c 1 (4 * t.val + 1) _ e1
    isplitl [C2]
    · exact flight_to c 2 (4 * t.val + 2) _ e2
    · exact flight_to c 3 (4 * t.val + 3) _ e3
  · iexists _; iexact HW

include ho in
set_option maxHeartbeats 1000000 in
/-- The last point: it receives the copies of the point before and its own. -/
theorem last (h49 : t.val = 49) (K : PUnit → sProp 𝕄) :
    iprop(blocks c arg1 arg2 arg3 arg4 x1 x2 x3 x4
      ∗ inFlight c (resultOf c o) (t.val - 1) ∗ slices c V t.val ∗ owes (c : Thread nD τ) 0 W
      ∗ (blocks c arg1 arg2 arg3 arg4 x1 x2 x3 x4 -∗ slices c (resultOf c o) (t.val - 1) -∗ slices c (resultOf c o) t.val
          -∗ idle (F := F) c -∗ (∃ W', owes (c : Thread nD τ) 0 W') -∗ K ⟨⟩))
      ⊢ wp frame (wpE (defs₀ (F := F)) Variants.none c none) Set.univ (bodyG t arg1 harg1 arg2 harg2 arg3 harg3 arg4 harg4) K := by
  have h0 : t.val ≠ 0 := by omega
  have c1 := (cond1_iff t).mpr h0
  have c2 := (cond2_iff t).mpr h0
  have c3 := (cond3_iff t).mpr h0
  have c4 := (cond4_iff t).mpr h0
  have c5 := (cond5_iff t).mpr h49
  have ht : t.val < 50 := lt_of_lt_of_eq t.isLt N_0
  unfold bodyG blocks inFlight slices idle; rw [cc0__fused_body_eq_skeleton]; unfold cc0__fused_body_skel
  rw [k0_part1_eq_skeleton, k0_part2_eq_skeleton, k0_part3_eq_skeleton, k0_part4_eq_skeleton]
  iintro ⟨⟨H1, H2, H3, H4⟩, ⟨⟨%f0, F0⟩, ⟨%f1, F1⟩, ⟨%f2, F2⟩, ⟨%f3, F3⟩⟩, ⟨D0, D1, D2, D3⟩, HW, Hk⟩
  sl_exec
  sl_step
  have e0 := delivered c o t.val ht 0 (4 * t.val) rfl (onDst c (4 * t.val) V) f0 _ ((stored0 _ _ _).trans (congrArg (tileVal · 0) ho.symm))
  have e1 := delivered c o t.val ht 1 (4 * t.val + 1) rfl (onDst c (4 * t.val + 1) V) f1 _ ((stored1 _ _ _).trans (congrArg (tileVal · 1) ho.symm))
  have e2 := delivered c o t.val ht 2 (4 * t.val + 2) rfl (onDst c (4 * t.val + 2) V) f2 _ ((stored2 _ _).trans (congrArg (tileVal · 2) ho.symm))
  have e3 := delivered c o t.val ht 3 (4 * t.val + 3) rfl (onDst c (4 * t.val + 3) V) f3 _ ((stored3 _ _).trans (congrArg (tileVal · 3) ho.symm))
  iapply Hk $$ [H1 H2 H3 H4] [F0_dst F1_dst F2_dst F3_dst] [D0 D1 D2 D3] [F0_src F1_src F2_src F3_src F0 F1 F2 F3] [HW]
  · iframe
  · iframe
  · isplitl [D0]
    · exact .of_eq e0
    isplitl [D1]
    · exact .of_eq e1
    isplitl [D2]
    · exact .of_eq e2
    · exact .of_eq e3
  · isplitl [F0_src F1_src F2_src F3_src]
    · isplitl [F0_src]
      · iexists _; iexact F0_src
      isplitl [F1_src]
      · iexists _; iexact F1_src
      isplitl [F2_src]
      · iexists _; iexact F2_src
      · iexists _; iexact F3_src
    · isplitl [F0]
      · iexact F0
      isplitl [F1]
      · iexact F1
      isplitl [F2]
      · iexact F2
      · iexact F3
  · iexists _; iexact HW

end Body

end Cert.KernelIdeal.Hand

end
-- ==== Proof.Parts.lean ====
/-
  The result and the ring buffer taken apart.

  The result is held in three parts while the grid runs: the slices not yet touched (`ahead u`: the middle
  index is at least `u`), the slices already filled (`behind u`: it is less than `u`), and single slices in
  between. `take` and `give` move one slice; `take4` and `give4` the four of a point. The ring buffer is
  its four tiles (`tiles_of_ring`, `ring_of_tiles`).
-/
module

public import proofs.«01_k».proof.Proof.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The index sets -/

/-- The elements of slices `u`, `u + 1`, …; -/
def ahead (u : ℕ) : Finset S4096x200x128.Idx := Finset.univ.filter fun i => u ≤ (i 1).val
/-- those of slices `0` to `u - 1`; -/
def behind (u : ℕ) : Finset S4096x200x128.Idx := Finset.univ.filter fun i => (i 1).val < u
/-- those of slice `u`; -/
def at_ (u : ℕ) : Finset S4096x200x128.Idx := Finset.univ.filter fun i => (i 1).val = u
/-- those of tile `k`. -/
def inTile (k : Fin 4) : Finset S4x4096x128.Idx := Finset.univ.filter fun i => (i 0).val = k.val

theorem dst_set (u : ℕ) (hu : u < 200) : (dst u).view.set = at_ u := by
  have e : (dst u).view.set = (Rect.unit (s := S4096x200x128) (dstOff u) S4096x1x128.size (dstOff_inb u)).set :=
    (View.set_reshape _ _).trans (View.set_slice_whole _ _)
  refine e.trans (Finset.ext fun (i : S4096x200x128.Idx) => ?_)
  rw [Rect.mem_set_unit]; unfold at_
  rw [Finset.mem_filter]
  have h0 : (i 0).val < 4096 := (i 0).isLt
  have h2 : (i 2).val < 128 := (i 2).isLt
  constructor
  · intro h
    have h1 : min u 199 ≤ (i 1).val ∧ (i 1).val < min u 199 + 1 := h 1
    exact ⟨Finset.mem_univ _, by omega⟩
  · rintro ⟨-, h⟩ a
    fin_cases a
    · show 0 ≤ (i 0).val ∧ (i 0).val < 0 + 4096; omega
    · show min u 199 ≤ (i 1).val ∧ (i 1).val < min u 199 + 1; omega
    · show 0 ≤ (i 2).val ∧ (i 2).val < 0 + 128; omega

theorem tile_set (k : Fin 4) : (tile k).view.set = inTile k := by
  have e : (tile k).view.set = (Rect.unit (s := S4x4096x128) (tileOff k) S1x4096x128.size (tileOff_inb k)).set :=
    (View.set_reshape _ _).trans (View.set_slice_whole _ _)
  refine e.trans (Finset.ext fun (i : S4x4096x128.Idx) => ?_)
  rw [Rect.mem_set_unit]; unfold inTile
  rw [Finset.mem_filter]
  have h1 : (i 1).val < 4096 := (i 1).isLt
  have h2 : (i 2).val < 128 := (i 2).isLt
  constructor
  · intro h
    have h0 : k.val ≤ (i 0).val ∧ (i 0).val < k.val + 1 := h 0
    exact ⟨Finset.mem_univ _, by omega⟩
  · rintro ⟨-, h⟩ a
    fin_cases a
    · show k.val ≤ (i 0).val ∧ (i 0).val < k.val + 1; omega
    · show 0 ≤ (i 1).val ∧ (i 1).val < 0 + 4096; omega
    · show 0 ≤ (i 2).val ∧ (i 2).val < 0 + 128; omega

theorem ahead_eq (u : ℕ) : ahead u = at_ u ∪ ahead (u + 1) := by
  ext i; simp only [ahead, at_, Finset.mem_union, Finset.mem_filter, Finset.mem_univ, true_and]; omega
theorem behind_eq (u : ℕ) : behind (u + 1) = behind u ∪ at_ u := by
  ext i; simp only [behind, at_, Finset.mem_union, Finset.mem_filter, Finset.mem_univ, true_and]; omega
theorem at_ahead (u : ℕ) : Disjoint (at_ u) (ahead (u + 1)) := by
  rw [Finset.disjoint_left]; intro i; simp only [ahead, at_, Finset.mem_filter, Finset.mem_univ, true_and]; omega
theorem behind_at (u : ℕ) : Disjoint (behind u) (at_ u) := by
  rw [Finset.disjoint_left]; intro i; simp only [behind, at_, Finset.mem_filter, Finset.mem_univ, true_and]; omega
theorem ahead_zero : ahead 0 = Finset.univ := by
  ext i; simp [ahead]
theorem behind_zero : behind 0 = ∅ := by
  ext i; simp [behind]
theorem behind_all : behind 200 = Finset.univ := by
  ext i
  have h : (i 1).val < 200 := (i 1).isLt
  simp only [behind, Finset.mem_filter, Finset.mem_univ, true_and, iff_true]; exact h

/-! ## The result -/

section Result
variable (c : Dev nD)

/-- Part `S` of the result, held at `g`. -/
def resP (S : Finset S4096x200x128.Idx) (g : ResBuf (F := F) c) : sProp 𝕄 :=
  resM.view.loc (c : Thread nD τ) ↦[S]{fullShare} g

theorem dstP_eq (u : ℕ) (hu : u < 200) (g : ResBuf (F := F) c) : dstP c u (onDst c u g) = resP c (at_ u) g := by
  unfold dstP resP; rw [dst_set u hu]; rfl

/-- One slice out of those ahead; -/
theorem take (u : ℕ) (hu : u < 200) (g : ResBuf (F := F) c) :
    resP c (ahead u) g ⊢ iprop(dstP c u (onDst c u g) ∗ resP c (ahead (u + 1)) g) := by
  rw [dstP_eq c u hu g, ahead_eq u]; unfold resP
  exact (pointsTo_union (at_ahead u)).1
/-- one slice back to those behind. -/
theorem give (u : ℕ) (hu : u < 200) (g : ResBuf (F := F) c) :
    iprop(resP c (behind u) g ∗ dstP c u (onDst c u g)) ⊢ resP c (behind (u + 1)) g := by
  rw [dstP_eq c u hu g, behind_eq u]; unfold resP
  exact (pointsTo_union (behind_at u)).2

/-- The four slices of point `p` out of those ahead; -/
theorem take4 (p : ℕ) (hp : p < 50) (g : ResBuf (F := F) c) :
    resP c (ahead (4 * p)) g ⊢ iprop(slices c g p ∗ resP c (ahead (4 * (p + 1))) g) := by
  unfold slices
  iintro H
  ihave H := take c (4 * p) (by omega) g $$ H
  icases H with ⟨H0, H⟩
  ihave H := take c (4 * p + 1) (by omega) g $$ H
  icases H with ⟨H1, H⟩
  ihave H := take c (4 * p + 2) (by omega) g $$ H
  icases H with ⟨H2, H⟩
  ihave H := take c (4 * p + 3) (by omega) g $$ H
  icases H with ⟨H3, H⟩
  iframe
/-- the four slices of point `p` back to those behind. -/
theorem give4 (p : ℕ) (hp : p < 50) (g : ResBuf (F := F) c) :
    iprop(resP c (behind (4 * p)) g ∗ slices c g p) ⊢ resP c (behind (4 * (p + 1))) g := by
  unfold slices
  iintro ⟨H, H0, H1, H2, H3⟩
  ihave H := give c (4 * p) (by omega) g $$ [H H0]
  · iframe
  ihave H := give c (4 * p + 1) (by omega) g $$ [H H1]
  · iframe
  ihave H := give c (4 * p + 2) (by omega) g $$ [H H2]
  · iframe
  ihave H := give c (4 * p + 3) (by omega) g $$ [H H3]
  · iframe
  iexact H

theorem resP_ahead_zero (g : ResBuf (F := F) c) : resP c (ahead 0) g = (resM.view.loc (c : Thread nD τ) ↦{fullShare} g) := by
  unfold resP; rw [ahead_zero]
theorem resP_behind_all (g : ResBuf (F := F) c) : resP c (behind 200) g = (resM.view.loc (c : Thread nD τ) ↦{fullShare} g) := by
  unfold resP; rw [behind_all]
theorem resP_behind_zero (g : ResBuf (F := F) c) : resP c (behind 0) g = iprop(emp) := by
  unfold resP; rw [behind_zero]; exact pointsTo_empty

/-! ## The ring buffer -/

/-- Part `S` of the ring buffer, held at `f`. -/
def ringP (S : Finset S4x4096x128.Idx) (f : RingBuf (F := F) c) : sProp 𝕄 :=
  ringM.view.loc (c : Thread nD τ) ↦[S]{fullShare} f

theorem tileP_eq (k : Fin 4) (f : Buf (Elt F) ((tile k).view.loc (c : Thread nD τ))) : tileP c k f = ringP c (inTile k) f := by
  unfold tileP ringP; rw [tile_set k]; rfl

theorem ring_cover : (Finset.univ : Finset S4x4096x128.Idx) = inTile 0 ∪ (inTile 1 ∪ (inTile 2 ∪ inTile 3)) := by
  ext i
  have h : (i 0).val < 4 := (i 0).isLt
  simp only [inTile, Finset.mem_union, Finset.mem_filter, Finset.mem_univ, true_and, true_iff]
  show (i 0).val = 0 ∨ (i 0).val = 1 ∨ (i 0).val = 2 ∨ (i 0).val = 3
  omega
theorem tile_apart (k j : Fin 4) (h : k ≠ j) : Disjoint (inTile k) (inTile j) := by
  rw [Finset.disjoint_left]; intro i; simp only [inTile, Finset.mem_filter, Finset.mem_univ, true_and]
  intro e e'; exact h (Fin.ext (e.symm.trans e'))

theorem apart3 : Disjoint (inTile 2) (inTile 3) := tile_apart 2 3 (by decide)
theorem apart2 : Disjoint (inTile 1) (inTile 2 ∪ inTile 3) :=
  Finset.disjoint_union_right.mpr ⟨tile_apart 1 2 (by decide), tile_apart 1 3 (by decide)⟩
theorem apart1 : Disjoint (inTile 0) (inTile 1 ∪ (inTile 2 ∪ inTile 3)) :=
  Finset.disjoint_union_right.mpr ⟨tile_apart 0 1 (by decide),
    Finset.disjoint_union_right.mpr ⟨tile_apart 0 2 (by decide), tile_apart 0 3 (by decide)⟩⟩

/-- Two disjoint parts, each held at something, are their union held at something; -/
theorem ring_join (S T : Finset S4x4096x128.Idx) (h : Disjoint S T) :
    iprop((∃ f, ringP (F := F) c S f) ∗ ∃ f, ringP (F := F) c T f) ⊢ iprop(∃ f, ringP (F := F) c (S ∪ T) f) := by
  unfold ringP
  iintro ⟨⟨%f, Hf⟩, ⟨%g, Hg⟩⟩
  iexists _
  iapply pointsTo_join h
  isplitl [Hf]
  · iexact Hf
  · iexact Hg
/-- and apart again. -/
theorem ring_split (S T : Finset S4x4096x128.Idx) (h : Disjoint S T) :
    iprop(∃ f, ringP (F := F) c (S ∪ T) f) ⊢ iprop((∃ f, ringP (F := F) c S f) ∗ ∃ f, ringP (F := F) c T f) := by
  unfold ringP
  iintro ⟨%f, Hf⟩
  ihave H := (pointsTo_union h).1 $$ Hf
  icases H with ⟨H1, H2⟩
  isplitl [H1]
  · iexists _; iexact H1
  · iexists _; iexact H2

/-- The four tiles, each held at something. -/
def tiles : sProp 𝕄 :=
  iprop((∃ f, tileP (F := F) c 0 f) ∗ (∃ f, tileP (F := F) c 1 f) ∗ (∃ f, tileP (F := F) c 2 f) ∗ ∃ f, tileP (F := F) c 3 f)
theorem tiles_eq : tiles (F := F) c = iprop((∃ f, ringP (F := F) c (inTile 0) f) ∗ (∃ f, ringP (F := F) c (inTile 1) f)
    ∗ (∃ f, ringP (F := F) c (inTile 2) f) ∗ ∃ f, ringP (F := F) c (inTile 3) f) := by
  unfold tiles; simp only [tileP_eq]; rfl

/-- The whole ring buffer at something is its tiles at something, -/
theorem tiles_of_ring : iprop(∃ f : RingBuf (F := F) c, ringM.view.loc (c : Thread nD τ) ↦{fullShare} f) ⊢ tiles (F := F) c := by
  rw [tiles_eq]
  have h : iprop(∃ f : RingBuf (F := F) c, ringM.view.loc (c : Thread nD τ) ↦{fullShare} f)
      = iprop(∃ f, ringP (F := F) c (inTile 0 ∪ (inTile 1 ∪ (inTile 2 ∪ inTile 3))) f) := by
    rw [← ring_cover]; rfl
  rw [h]
  iintro H
  ihave H := ring_split c _ _ apart1 $$ H
  icases H with ⟨H0, H⟩
  ihave H := ring_split c _ _ apart2 $$ H
  icases H with ⟨H1, H⟩
  ihave H := ring_split c _ _ apart3 $$ H
  icases H with ⟨H2, H3⟩
  iframe
/-- and back. -/
theorem ring_of_tiles : tiles (F := F) c ⊢ iprop(∃ f : RingBuf (F := F) c, ringM.view.loc (c : Thread nD τ) ↦{fullShare} f) := by
  rw [tiles_eq]
  have h : iprop(∃ f : RingBuf (F := F) c, ringM.view.loc (c : Thread nD τ) ↦{fullShare} f)
      = iprop(∃ f, ringP (F := F) c (inTile 0 ∪ (inTile 1 ∪ (inTile 2 ∪ inTile 3))) f) := by
    rw [← ring_cover]; rfl
  rw [h]
  iintro ⟨H0, H1, H2, H3⟩
  ihave H := ring_join c _ _ apart3 $$ [H2 H3]
  · iframe
  ihave H := ring_join c _ _ apart2 $$ [H1 H]
  · iframe
  ihave H := ring_join c _ _ apart1 $$ [H0 H]
  · iframe
  iexact H

end Result

end Cert.KernelIdeal.Hand

end
-- ==== Proof.Grid.lean ====
/-
  The kernel's launch.

  Between points the run holds (`Inv`): before the first point, what the launch gives it — the ring buffer
  at anything, the four cells at zero, the result as the launch finds it; after point `p - 1`, the four
  copies of that point in flight, the slices of earlier points at the result's values and those of later
  points as the launch found them; after the last point, the ring buffer and the cells idle again and the
  whole result at its values.

  `run_main` is the whole program: it ends, with every counter at zero, the arguments unchanged and the
  result at `resultOf`.
-/
module

public import proofs.«01_k».proof.Proof.Parts

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch's own semaphores and buffers -/

/-- The four cells. -/
abbrev osem0 : Fin 4 → SemLoc sig := fun j => (![SemLoc.dma 6, SemLoc.dma 7, SemLoc.dma 8, SemLoc.dma 9] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(cellP (F := F) c 0 ∗ cellP (F := F) c 1 ∗ cellP (F := F) c 2 ∗ cellP (F := F) c 3) := by
  rw [Pipeline.ownSems0_eq_of_list c osem0 [0, 1, 2, 3] (by decide) (by decide)]; rfl

/-- No operand in HBM is read by the body's copies; -/
abbrev H0 : Finset (Ref sig .tc) := ∅
theorem H0_sub : H0 ⊆ Pipeline.restRefs sig spec0 := by decide
/-- the result is written by them. -/
abbrev R0 : Finset (Ref sig .tc) := {main_v37}
theorem R0_sub : R0 ⊆ Pipeline.restRefs sig spec0 \ H0 := by decide

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-! ## The result the grid leaves -/

/-- Point `n` of the grid (the last, for a number past it). -/
def point (n : ℕ) : Fin cfg0.N := ⟨min n 49, by rw [show cfg0.N = 50 from N_0]; omega⟩
theorem point_val (t : Fin cfg0.N) : point t.val = t := by
  have h := lt_of_lt_of_eq t.isLt N_0
  exact Fin.ext (by show min t.val 49 = t.val; omega)

/-- What point `n` computes, from its blocks of the arrays the launch finds. -/
def outAt (c : Dev nD) (n : ℕ) : FVec F S16384x128 .f32 :=
  outMat (iblk m c 0 (point n)) (iblk m c 1 (point n)) (iblk m c 2 (point n)) (iblk m c 3 (point n))

/-- The result. -/
def result (c : Dev nD) : ResBuf (F := F) c := resultOf c (outAt m c)

/-- The buffers after the launch: as it found them, but for the result. -/
def after (c : Dev nD) (b : Ref sig .tc) : Buf (Elt F) ((c : Thread nD τ).loc b) :=
  if h : b = main_v37 then h ▸ (result m c : Buf (Elt F) ((c : Thread nD τ).loc main_v37)) else V m c b
theorem after_result (c : Dev nD) : after m c main_v37 = result m c := by
  unfold after; rw [dif_pos rfl]

/-! ## The invariant -/

/-- The launch's resources with the result at `g`. -/
theorem idle_eq (c : Dev nD) (G : (c : Dev nD) → (b : Ref sig .tc) → Buf (Elt F) ((c : Thread nD τ).loc b)) :
    (Pipeline.ΦDRG osem0 spec0 H0 R0 (V m) G c : sProp 𝕄)
      = iprop((∃ f : RingBuf (F := F) c, ringM.view.loc (c : Thread nD τ) ↦{fullShare} f) ∗ (∃ r, prngReg c r)
          ∗ (cellP (F := F) c 0 ∗ cellP (F := F) c 1 ∗ cellP (F := F) c 2 ∗ cellP (F := F) c 3)
          ∗ emp ∗ (resM.view.loc (c : Thread nD τ) ↦{fullShare} G c main_v37)) := by
  rw [Pipeline.ΦDRG_eq, scopedRest0_eq, ownSems00_eq, Pipeline.routed_singleton]; rfl

/-- What the run holds before point `p`, `0 < p < 50`. -/
def running (c : Dev nD) (p : ℕ) : sProp 𝕄 :=
  iprop((∃ r, prngReg c r) ∗ inFlight c (result m c) (p - 1) ∗ resP c (behind (4 * (p - 1))) (result m c)
    ∗ resP c (ahead (4 * p)) (V m c main_v37))

/-- What the run holds before point `p`. -/
def Inv (c : Dev nD) (p : ℕ) : sProp 𝕄 :=
  if p = 0 then Pipeline.ΦDRG osem0 spec0 H0 R0 (V m) (V m) c
  else if p = 50 then Pipeline.ΦDRG osem0 spec0 H0 R0 (V m) (after m) c
  else running m c p

/-- The proof data of the pipeline: the arrays as the launch finds them, each block left in place by the body. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ p := Inv m c p.val
  q _ := fullShare
  owed _ := 0

theorem A_eq (c : Dev nD) (w : Fin cfg0.W) : (dats m 0 c).A w = V m c (Pipeline.arrRef spec0 w) := rfl

/-- Each window's staging buffer holds its block at every point. -/
theorem before0 (c : Dev nD) (t : Fin cfg0.N) (d) : (dats m 0 c).before 0 t d = iblk m c 0 t :=
  ((dats m 0 c).before_in_eq_fetched 0 rfl (fun _ => rfl) (fun _ _ _ => rfl) (fun t => rfl) t d).trans rfl
theorem before1 (c : Dev nD) (t : Fin cfg0.N) (d) : (dats m 0 c).before 1 t d = iblk m c 1 t :=
  ((dats m 0 c).before_in_eq_fetched 1 rfl (fun _ => rfl) (fun _ _ _ => rfl) (fun t => rfl) t d).trans rfl
theorem before2 (c : Dev nD) (t : Fin cfg0.N) (d) : (dats m 0 c).before 2 t d = iblk m c 2 t :=
  ((dats m 0 c).before_in_eq_fetched 2 rfl (fun _ => rfl) (fun _ _ _ => rfl) (fun t => rfl) t d).trans rfl
theorem before3 (c : Dev nD) (t : Fin cfg0.N) (d) : (dats m 0 c).before 3 t d = iblk m c 3 t :=
  ((dats m 0 c).before_in_eq_fetched 3 rfl (fun _ => rfl) (fun _ _ _ => rfl) (fun t => rfl) t d).trans rfl

/-! ## One point -/

/-- The four staged blocks of point `t`. -/
def staged (c : Dev nD) (t : Fin cfg0.N) : sProp 𝕄 :=
  iprop(owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t))

/-- The staged blocks given back. -/
theorem staged_back (c : Dev nD) (t : Fin cfg0.N) (x1 x2 x3 x4)
    (e1 : View.read (Elt F) (st0_0 t).view x1 = iblk m c 0 t) (e2 : View.read (Elt F) (st0_1 t).view x2 = iblk m c 1 t)
    (e3 : View.read (Elt F) (st0_2 t).view x3 = iblk m c 2 t) (e4 : View.read (Elt F) (st0_3 t).view x4 = iblk m c 3 t) :
    blocks c (st0_0 t) (st0_1 t) (st0_2 t) (st0_3 t) x1 x2 x3 x4 ⊢ staged m c t := by
  unfold blocks staged owns
  iintro ⟨H1, H2, H3, H4⟩
  isplitl [H1]
  · iexists _; isplitr; swap; iexact H1; ipureintro; exact e1
  isplitl [H2]
  · iexists _; isplitr; swap; iexact H2; ipureintro; exact e2
  isplitl [H3]
  · iexists _; isplitr; swap; iexact H3; ipureintro; exact e3
  iexists _; isplitr; swap; iexact H4; ipureintro; exact e4

/-- The staged blocks, as whole buffers reading as the blocks. -/
theorem staged_open (c : Dev nD) (t : Fin cfg0.N) :
    staged m c t ⊢ iprop(∃ x1 x2 x3 x4,
      ⌜View.read (Elt F) (st0_0 t).view x1 = iblk m c 0 t ∧ View.read (Elt F) (st0_1 t).view x2 = iblk m c 1 t
        ∧ View.read (Elt F) (st0_2 t).view x3 = iblk m c 2 t ∧ View.read (Elt F) (st0_3 t).view x4 = iblk m c 3 t⌝
      ∗ blocks c (st0_0 t) (st0_1 t) (st0_2 t) (st0_3 t) x1 x2 x3 x4) := by
  unfold blocks staged owns
  iintro ⟨⟨%x1, %e1, H1⟩, ⟨%x2, %e2, H2⟩, ⟨%x3, %e3, H3⟩, ⟨%x4, %e4, H4⟩⟩
  iexists x1, x2, x3, x4
  isplitr; · ipureintro; exact ⟨e1, e2, e3, e4⟩
  iframe H1 H2 H3 H4

/-- What a point's blocks compute is the grid's value there. -/
theorem outAt_eq (c : Dev nD) (t : Fin cfg0.N) (x1 x2 x3 x4)
    (e : View.read (Elt F) (st0_0 t).view x1 = iblk m c 0 t ∧ View.read (Elt F) (st0_1 t).view x2 = iblk m c 1 t
        ∧ View.read (Elt F) (st0_2 t).view x3 = iblk m c 2 t ∧ View.read (Elt F) (st0_3 t).view x4 = iblk m c 3 t) :
    outAt m c t.val = outMat (View.read (Elt F) (st0_0 t).view x1) (View.read (Elt F) (st0_1 t).view x2)
      (View.read (Elt F) (st0_2 t).view x3) (View.read (Elt F) (st0_3 t).view x4) := by
  obtain ⟨e1, e2, e3, e4⟩ := e
  rw [e1, e2, e3, e4]; unfold outAt; rw [point_val]

/-- What each of the three steps states: point `t` carries the invariant. -/
def Carries (c : Dev nD) (t : Fin cfg0.N) : Prop :=
  ∀ (W : Waits sig Unit) (K : PUnit → sProp 𝕄),
    iprop(Inv m c t.val ∗ staged m c t ∗ owes (c : Thread nD τ) 0 W
      ∗ (Inv m c (t.val + 1) -∗ staged m c t -∗ (∃ W', owes (c : Thread nD τ) 0 W') -∗ K ⟨⟩))
      ⊢ wp frame (wpE (defs₀ (F := F)) Variants.none c none) Set.univ (bodyAt0 t) K

/-- The first point carries the invariant: its slices come off the result as the launch found it. -/
theorem step_first (c : Dev nD) (t : Fin cfg0.N) (h0 : t.val = 0) : Carries m c t := by
  intro W K
  have hI : iprop((∃ r, prngReg c r) ∗ inFlight c (result m c) t.val ∗ resP c (ahead (4 * (0 + 1))) (V m c main_v37)) ⊢ Inv m c (t.val + 1) := by
    unfold Inv running
    rw [if_neg (by omega), if_neg (by omega), h0, resP_behind_zero]
    iintro ⟨A, B, C⟩
    isplitl [A]; · iexact A
    isplitl [B]; · iexact B
    isplitr; · iempintro
    iexact C
  have hS : Inv m c t.val = Pipeline.ΦDRG osem0 spec0 H0 R0 (V m) (V m) c := by unfold Inv; rw [if_pos h0]
  have hs : slices (F := F) c (V m c main_v37) 0 = slices c (V m c main_v37) t.val := by rw [h0]
  rw [hS, idle_eq, ← resP_ahead_zero]
  iintro ⟨⟨HR, Hg, HC, -, Hres⟩, HB, HW, Hk⟩
  ihave HB := staged_open m c t $$ HB
  icases HB with ⟨%x1, %x2, %x3, %x4, %e, HB⟩
  ihave HT := tiles_of_ring c $$ HR
  ihave HA := take4 c 0 (by omega) (V m c main_v37) $$ Hres
  icases HA with ⟨HD, HA⟩
  ihave HD := BIBase.Entails.of_eq hs $$ HD
  iapply first c t (st0_0 t) _ (st0_1 t) _ (st0_2 t) _ (st0_3 t) _ x1 x2 x3 x4 (V m c main_v37) (outAt m c) (outAt_eq m c t x1 x2 x3 x4 e) W h0
  isplitl [HB]; · iexact HB
  isplitl [HT HC]
  · unfold idle tiles
    isplitl [HT]; · iexact HT
    iexact HC
  isplitl [HD]; · iexact HD
  isplitl [HW]; · iexact HW
  iintro HB HF HW
  iapply Hk $$ [Hg HF HA] [HB]
  · iapply hI; isplitl [Hg]; · iexact Hg
    isplitl [HF]; · iexact HF
    iexact HA
  · iapply staged_back m c t x1 x2 x3 x4 e.1 e.2.1 e.2.2.1 e.2.2.2; iexact HB
  iexact HW

/-- A middle point carries it: the slices of the point before come back written. -/
theorem step_middle (c : Dev nD) (t : Fin cfg0.N) (h0 : t.val ≠ 0) (h49 : t.val ≠ 49) : Carries m c t := by
  intro W K
  have ht : t.val < 50 := lt_of_lt_of_eq t.isLt N_0
  have hI : iprop((∃ r, prngReg c r) ∗ inFlight c (result m c) t.val ∗ resP c (behind (4 * (t.val - 1 + 1))) (result m c)
      ∗ resP c (ahead (4 * (t.val + 1))) (V m c main_v37)) ⊢ Inv m c (t.val + 1) := by
    unfold Inv running
    rw [if_neg (by omega), if_neg (by omega), show t.val + 1 - 1 = t.val by omega, show t.val - 1 + 1 = t.val by omega]
  have hS : Inv m c t.val = running m c t.val := by unfold Inv; rw [if_neg h0, if_neg (by omega)]
  rw [hS]; unfold running
  iintro ⟨⟨Hg, HF, Hb, Ha⟩, HB, HW, Hk⟩
  ihave HB := staged_open m c t $$ HB
  icases HB with ⟨%x1, %x2, %x3, %x4, %e, HB⟩
  ihave HA := take4 c t.val ht (V m c main_v37) $$ Ha
  icases HA with ⟨HD, HA⟩
  iapply middle c t (st0_0 t) _ (st0_1 t) _ (st0_2 t) _ (st0_3 t) _ x1 x2 x3 x4 (V m c main_v37) (outAt m c) (outAt_eq m c t x1 x2 x3 x4 e) W h0 h49
  isplitl [HB]; · iexact HB
  isplitl [HF]; · iexact HF
  isplitl [HD]; · iexact HD
  isplitl [HW]; · iexact HW
  iintro HB HS HF HW
  iapply Hk $$ [Hg HF HA Hb HS] [HB]
  · iapply hI; isplitl [Hg]; · iexact Hg
    isplitl [HF]; · iexact HF
    isplitl [Hb HS]
    · iapply give4 c (t.val - 1) (by omega) (result m c)
      isplitl [Hb]; · iexact Hb
      iexact HS
    iexact HA
  · iapply staged_back m c t x1 x2 x3 x4 e.1 e.2.1 e.2.2.1 e.2.2.2; iexact HB
  iexact HW

/-- The last point carries it: every slice comes back written, the ring buffer and the cells idle. -/
theorem step_last (c : Dev nD) (t : Fin cfg0.N) (h49 : t.val = 49) : Carries m c t := by
  intro W K
  have hI : iprop((∃ r, prngReg c r) ∗ idle (F := F) c ∗ resP c (behind (4 * (49 + 1))) (result m c)) ⊢ Inv m c (t.val + 1) := by
    unfold Inv
    rw [if_neg (by omega), if_pos (by omega), idle_eq, after_result, ← resP_behind_all]
    iintro ⟨Hg, HI, HR⟩
    unfold idle
    icases HI with ⟨HT, HC⟩
    isplitl [HT]
    · iapply ring_of_tiles c; unfold tiles; iexact HT
    isplitl [Hg]; · iexact Hg
    isplitl [HC]; · iexact HC
    isplitr; · iempintro
    iexact HR
  have hS : Inv m c t.val = running m c t.val := by unfold Inv; rw [if_neg (by omega), if_neg (by omega)]
  have hs : slices c (resultOf c (outAt m c)) t.val = slices c (result m c) 49 := by rw [h49]; rfl
  have hs' : slices c (resultOf c (outAt m c)) (t.val - 1) = slices c (result m c) 48 := by rw [h49]; rfl
  have hb : resP c (behind (4 * (t.val - 1))) (result m c) = resP c (behind (4 * 48)) (result m c) := by rw [h49]
  rw [hS]; unfold running; rw [hb]
  iintro ⟨⟨Hg, HF, Hb, Ha⟩, HB, HW, Hk⟩
  ihave HB := staged_open m c t $$ HB
  icases HB with ⟨%x1, %x2, %x3, %x4, %e, HB⟩
  ihave HA := take4 c t.val (by omega) (V m c main_v37) $$ Ha
  icases HA with ⟨HD, -⟩
  iapply last c t (st0_0 t) _ (st0_1 t) _ (st0_2 t) _ (st0_3 t) _ x1 x2 x3 x4 (V m c main_v37) (outAt m c) (outAt_eq m c t x1 x2 x3 x4 e) W h49
  isplitl [HB]; · iexact HB
  isplitl [HF]; · iexact HF
  isplitl [HD]; · iexact HD
  isplitl [HW]; · iexact HW
  iintro HB HS HS' HI HW
  ihave HS := BIBase.Entails.of_eq hs' $$ HS
  ihave HS' := BIBase.Entails.of_eq hs $$ HS'
  iapply Hk $$ [Hg HI Hb HS HS'] [HB]
  · iapply hI; isplitl [Hg]; · iexact Hg
    isplitl [HI]; · iexact HI
    iapply give4 c 49 (by omega) (result m c)
    isplitl [Hb HS]
    · iapply give4 c 48 (by omega) (result m c)
      isplitl [Hb]; · iexact Hb
      iexact HS
    iexact HS'
  · iapply staged_back m c t x1 x2 x3 x4 e.1 e.2.1 e.2.2.1 e.2.2.2; iexact HB
  iexact HW

/-- Every point carries the invariant. -/
theorem step (c : Dev nD) (t : Fin cfg0.N) : Carries m c t := by
  by_cases h0 : t.val = 0
  · exact step_first m c t h0
  by_cases h49 : t.val = 49
  · exact step_last m c t h49
  exact step_middle m c t h0 h49

/-! ## The pipeline's obligation, and the run -/

/-- What the pipeline hands the body at point `t`; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
/-- what it expects back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  have hpost : iprop(Inv m c (t.val + 1) ∗ (dats m 0 c).owesAt () t.succ ∗ staged m c t) ⊢ bodyPost m c t := .rfl
  have hpre : (dats m 0 c).Φ t.castSucc ⊢ Inv m c t.val := .rfl
  unfold bodyPre
  simp only [before0, before1, before2, before3]
  unfold Dat.owesAt Pipeline.owesWithin
  rw [show (dats m 0 c).owed t.castSucc = 0 from rfl]
  iintro ⟨HI, ⟨%W, -, HW⟩, ⟨%d0, H0⟩, ⟨%d1, H1⟩, ⟨%d2, H2⟩, ⟨%d3, H3⟩⟩
  iapply step m c t W
  isplitl [HI]; · iapply hpre; iexact HI
  isplitl [H0 H1 H2 H3]
  · unfold staged; iframe H0 H1 H2 H3
  isplitl [HW]; · iexact HW
  iintro HI HB ⟨%W', HW⟩
  iapply hpost
  isplitl [HI]; · iexact HI
  isplitl [HW]
  · unfold Dat.owesAt Pipeline.owesWithin
    rw [show (dats m 0 c).owed t.succ = 0 from rfl]
    iexists W'
    isplitr; · ipureintro; exact fun _ _ => Or.inl trivial
    iexact HW
  iexact HB

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) defs₀ Variants.none () Set.univ := fun t => by
  rw [bigSep_W0, bigSep_W0, defs₀_row]
  exact triple_restated (sound_body m c t) rfl .rfl fun _ => .rfl

set_option backward.isDefEq.respectTransparency.types false in
/-- The whole program: every buffer the launch does not write is as it found it, the result is `result`, every
counter is zero. -/
theorem run_main : θ_run defs (onTc main) (s₀ m ρ)
    (fun r => Pipeline.FramePostRG cfgs (dats m) (0 : Fin 1) R0 (V m) (after m) r ∧ r.2.sem = fun _ => 0) :=
  Pipeline.θ_run_frame_dmaRG (Q' := _) cfgs (dats m) (0 : Fin 1) launch0 osem0 defs₀ Variants.none ownSemFacts0 H0 R0 H0_sub R0_sub
    m ρ main (hbody := fun c => (body_obligation m c).loose) (hshare := fun c => (dats m 0 c).share_full fun _ => rfl)
    (howed := fun _ _ => rfl) (V := V m) (hmain := hmain m Variants.none) (hA := A_eq m) (G := after m)
    (hin := fun c => .rfl) (hout := fun c => .rfl) (hQ' := fun _ h => h)

/-- The arguments as the launch found them, on device `c`. -/
def Kept (c : Dev nD) (r : (ℓ : Loc nD τ sig) → Buf (Elt F) ℓ) : Prop :=
  r ((c.tc : Thread nD τ).loc main_arg0) = m ((c.tc : Thread nD τ).loc main_arg0)
      ∧ r ((c.tc : Thread nD τ).loc main_arg1) = m ((c.tc : Thread nD τ).loc main_arg1)
      ∧ r ((c.tc : Thread nD τ).loc main_arg2) = m ((c.tc : Thread nD τ).loc main_arg2)
      ∧ r ((c.tc : Thread nD τ).loc main_arg3) = m ((c.tc : Thread nD τ).loc main_arg3)
      ∧ r ((c.tc : Thread nD τ).loc main_arg4) = m ((c.tc : Thread nD τ).loc main_arg4)
      ∧ r ((c.tc : Thread nD τ).loc main_arg5) = m ((c.tc : Thread nD τ).loc main_arg5)
      ∧ r ((c.tc : Thread nD τ).loc main_arg6) = m ((c.tc : Thread nD τ).loc main_arg6)
      ∧ r ((c.tc : Thread nD τ).loc main_arg7) = m ((c.tc : Thread nD τ).loc main_arg7)
      ∧ r ((c.tc : Thread nD τ).loc main_arg8) = m ((c.tc : Thread nD τ).loc main_arg8)
      ∧ r ((c.tc : Thread nD τ).loc main_arg9) = m ((c.tc : Thread nD τ).loc main_arg9)

/-- A buffer outside the launch's arrays and results ends as the launch found it. -/
theorem kept_one {r : PUnit × MemSt nD τ sig (Elt F)} (h : Pipeline.FramePostRG cfgs (dats m) (0 : Fin 1) R0 (V m) (after m) r) (c : Dev nD)
    (b : Ref sig .tc) (hb : b ∈ Pipeline.restRefs sig spec0 \ R0) : r.2.mem ((c.tc : Thread nD τ).loc b) = V m c b :=
  (h.1 c).2 b hb

/-- The whole program keeps its arguments, leaves `result` in its result, and every counter at zero. -/
theorem run_kept : θ_run defs (onTc main) (s₀ m ρ)
    (fun r => (∀ c : Dev nD, r.2.mem ((c.tc : Thread nD τ).loc main_v37) = result m c ∧ Kept m c r.2.mem) ∧ r.2.sem = fun _ => 0) :=
  (θ_run _ _ _).mono (fun r h => ⟨fun c => ⟨(h.1.written c (b := main_v37) (by decide)).trans (after_result m c),
(kept_one m h.1 c main_arg0 (by decide)).trans (V_main_arg0 m c),
      (kept_one m h.1 c main_arg1 (by decide)).trans (V_main_arg1 m c),
      (kept_one m h.1 c main_arg2 (by decide)).trans (V_main_arg2 m c),
      (kept_one m h.1 c main_arg3 (by decide)).trans (V_main_arg3 m c),
      (kept_one m h.1 c main_arg4 (by decide)).trans (V_main_arg4 m c),
      (kept_one m h.1 c main_arg5 (by decide)).trans (V_main_arg5 m c),
      (kept_one m h.1 c main_arg6 (by decide)).trans (V_main_arg6 m c),
      (kept_one m h.1 c main_arg7 (by decide)).trans (V_main_arg7 m c),
      (kept_one m h.1 c main_arg8 (by decide)).trans (V_main_arg8 m c),
      (kept_one m h.1 c main_arg9 (by decide)).trans (V_main_arg9 m c)⟩, h.2⟩) (run_main m ρ)

end Cert.KernelIdeal.Hand

end
-- ==== Proof.Same.lean ====
/-
  The two printed programs are one text: `Kernel` (at bit patterns) and `KernelIdeal` differ only in the names
  of their namespaces. So what is proved of `KernelIdeal` at every reading of a float holds of `Kernel`.
-/
module

public import proofs.«01_k».proof.Proof.Gen.Kernel
public import proofs.«01_k».proof.Proof.Gen.KernelIdeal
public import Idealize.ShloMosaic.PureOps.BitExact

@[expose] public section

noncomputable section

namespace Cert.Same

open Idealize.ShloMosaic Idealize.SL.Sem
open Cert.Kernel.Gen Cert.KernelIdeal.Gen

set_option maxHeartbeats 4000000 in
/-- The two programs are one, -/
theorem main_same : Cert.Kernel.main (F := Bits) = Cert.KernelIdeal.main (F := Bits) := rfl

/-- their kernel bodies are one, -/
theorem body_same : Cert.Kernel.defs₀ (F := Bits) = Cert.KernelIdeal.defs₀ (F := Bits) := by
  unfold Cert.Kernel.defs₀ Cert.KernelIdeal.defs₀
  congr 1; funext l x
  revert x
  match l with
  | 0 => intro x; rfl
  | ⟨n + 1, h⟩ => exact absurd h (Nat.not_lt.2 (Nat.le_add_left _ _))

/-- and so their body tables. -/
theorem defs_same : Cert.Kernel.defs (F := Bits) = Cert.KernelIdeal.defs (F := Bits) :=
  congrArg (Pipeline.defs (Cert.KernelIdeal.pcfgs (F := Bits))) body_same

/-- A run of `KernelIdeal`'s text is a run of `Kernel`'s. -/
theorem run_same (σ : MemSt Cert.KernelIdeal.nD Cert.KernelIdeal.τ Cert.KernelIdeal.sig (Elt Bits)) (Q)
    (h : θ_run (Cert.KernelIdeal.defs (F := Bits)) (onTc (τ := Cert.KernelIdeal.τ) (Cert.KernelIdeal.main (F := Bits))) σ Q) :
    θ_run (Cert.Kernel.defs (F := Bits)) (onTc (τ := Cert.Kernel.τ) (Cert.Kernel.main (F := Bits))) σ Q := by
  rw [main_same, defs_same]; exact h

end Cert.Same

end
-- ==== Proof.Equation.lean ====
/-
  The arithmetic on the extended reals that the two programs differ by.

  Row 0 of a table plus the entry times the difference of rows 1 and 0 is the row the entry names, when the
  entry is zero or one and row 0 is finite.
-/
module

public import Idealize.ShloMosaic.Lib.Pointwise

@[expose] public section

noncomputable section

namespace Cert.Equation

open Idealize.ShloMosaic

/-- A number less itself is zero only if it is finite. -/
theorem finite_of_sub_self {x : EReal} (h : x - x = 0) : ∃ r : ℝ, x = r := by
  induction x using EReal.rec with
  | bot => exact absurd h (by simp)
  | top => exact absurd h (by simp)
  | coe r => exact ⟨r, rfl⟩

/-- Taking a finite number off and putting it back changes nothing. -/
theorem sub_add_finite (x : EReal) (r : ℝ) : x - (r : EReal) + r = x := by
  induction x using EReal.rec with
  | bot => rfl
  | top => rfl
  | coe s => rw [← EReal.coe_sub, ← EReal.coe_add, sub_add_cancel]

/-- Only the lane's own table contributes a difference. -/
theorem own_table (c : Fin 4 → EReal) (j : Fin 4) (n : ℕ) (hn : n = j.val) (d : EReal) :
    ∑ i : Fin 4, c i * (if n = i.val then d else 0) = c j * d := by
  rw [Finset.sum_eq_single j (fun i _ hi => by rw [if_neg (fun h => hi (Fin.ext (h.symm.trans hn))), mul_zero])
    (fun h => absurd (Finset.mem_univ j) h), if_pos hn]

/-- Entry zero: the bias row holds row 0. -/
theorem entry_zero (s b2 base next : EReal) : s + (0 * (next - base) + (b2 + base)) = s + b2 + base := by
  rw [zero_mul, zero_add, add_assoc]
/-- Entry one: the difference turns row 0 into row 1. -/
theorem entry_one (s b2 base next : EReal) (r : ℝ) (hr : base = r) : s + (1 * (next - base) + (b2 + base)) = s + b2 + next := by
  rw [one_mul, hr, add_left_comm (next - (r : EReal)), sub_add_finite, add_assoc]

/-- The integers zero and one as floats. -/
theorem sitofp_zero : FloatOps.sitofp (F := Ideal) FTy.f32 (0#32) = (0 : EReal) := by
  show ((((0#32 : BitVec 32).toInt : ℤ) : ℝ) : EReal) = 0
  simp
theorem sitofp_one : FloatOps.sitofp (F := Ideal) FTy.f32 (1#32) = (1 : EReal) := by
  show ((((1#32 : BitVec 32).toInt : ℤ) : ℝ) : EReal) = 1
  rw [show (1#32 : BitVec 32).toInt = 1 from rfl]; simp

/-- The two programs' ends agree: the four differences and the bias row against the row the entry names. -/
theorem ends_agree (s b2 base next row : EReal) (c : Fin 4 → BitVec 32) (j : Fin 4) (n : ℕ) (hn : n = j.val)
    (hc : c j = 0#32 ∨ c j = 1#32) (hb : ∃ r : ℝ, base = r) (h0 : c j = 0#32 → row = base) (h1 : c j = 1#32 → row = next) :
    s + (∑ i : Fin 4, FloatOps.sitofp (F := Ideal) FTy.f32 (c i) * (if n = i.val then next - base else 0) + (b2 + base)) = s + b2 + row := by
  rw [own_table (fun i => FloatOps.sitofp (F := Ideal) FTy.f32 (c i)) j n hn]
  obtain ⟨r, hr⟩ := hb
  rcases hc with h | h
  · rw [h0 h, h, sitofp_zero, entry_zero]
  · rw [h1 h, h, sitofp_one, entry_one _ _ _ _ r hr]

end Cert.Equation

end
-- ==== Proof.Entries.lean ====
/-
  What the precondition says: every entry of the calendar is zero or one, and row 0 of every table is finite.
-/
module

public import proofs.«01_k».proof.Pre_rows_zero_or_one
public import proofs.«01_k».proof.Proof.Equation
public import Idealize.ShloMosaic.Lib.Pointwise

@[expose] public section

set_option maxRecDepth 16384

noncomputable section

namespace Cert.Pre_rows_zero_or_one.Hand

open Cert.Pre_rows_zero_or_one
open Idealize.ShloMosaic

/-- The precondition's shapes fit its operations. -/
theorem facts : Facts := by
  constructor <;> decide

variable [Facts]

/-- Two bits and-ed are one only if both are. -/
theorem both {a b : BitVec 1} (h : IntOp.andi a b = 1#1) : a = 1#1 ∧ b = 1#1 := by
  revert a b
  decide
/-- A decided bit that is one is true. -/
theorem holds {p : Prop} [Decidable p] (h : BitVec.ofBool (decide p) = 1#1) : p := by
  by_contra hn
  rw [decide_eq_false hn] at h
  exact absurd h (by decide)
/-- A word from zero to one. -/
theorem zero_or_one {w : BitVec 32} (h0 : IntOp.cmpi CmpIPredicate.sge w 0#32 = 1#1) (h1 : IntOp.cmpi CmpIPredicate.slt w 2#32 = 1#1) :
    w = 0#32 ∨ w = 1#32 := by
  have a0 : (0#32 : BitVec 32).toInt ≤ w.toInt := by
    have h : (BitVec.ofBool ((0#32 : BitVec 32).sle w)) = 1#1 := h0
    exact holds h
  have a1 : w.toInt < (2#32 : BitVec 32).toInt := by
    have h : (BitVec.ofBool (w.slt 2#32)) = 1#1 := h1
    exact holds h
  have b0 : (0 : ℤ) ≤ w.toInt := a0
  have b1 : w.toInt < 2 := a1
  have : w.toInt = 0 ∨ w.toInt = 1 := by omega
  rcases this with h | h
  · exact .inl (BitVec.eq_of_toInt_eq h)
  · exact .inr (BitVec.eq_of_toInt_eq h)

/-- What the precondition says at an index. -/
theorem at_index (x : FVec Ideal S4096x200x4 .f32) (cal : IVec S4096x200x4 32) (W1 : FVec Ideal S4x128 .f32) (b1 : FVec Ideal S128 .f32)
    (W2 : FVec Ideal S128x128 .f32) (b2 : FVec Ideal S128 .f32)
    (h : FVec Ideal S24x32 .f32) (d : FVec Ideal S7x32 .f32) (mo : FVec Ideal S12x32 .f32) (w : FVec Ideal S2x32 .f32)
    (hp : fn (F := Ideal) x cal W1 b1 W2 b2 h d mo w = fun _ => 1#1) (b : Fin 4096) (t : Fin 200) (j : Fin 4) (q : Fin 32) :
    (cal (ix3 b t j) = 0#32 ∨ cal (ix3 b t j) = 1#32)
      ∧ (∃ r : ℝ, h (ix2 0 q) = (r : EReal)) ∧ (∃ r : ℝ, d (ix2 0 q) = (r : EReal)) ∧ (∃ r : ℝ, mo (ix2 0 q) = (r : EReal)) ∧ ∃ r : ℝ, w (ix2 0 q) = (r : EReal) := by
  have h0 := congrFun hp (ix4 b t j q)
  pointwise [fn, fn_part1] at h0
  obtain ⟨h0, hw⟩ := both h0
  obtain ⟨h0, hm⟩ := both h0
  obtain ⟨h0, hd⟩ := both h0
  obtain ⟨h0, hh⟩ := both h0
  obtain ⟨hge, hlt⟩ := both h0
  exact ⟨zero_or_one hge hlt, Cert.Equation.finite_of_sub_self (holds hh), Cert.Equation.finite_of_sub_self (holds hd),
    Cert.Equation.finite_of_sub_self (holds hm), Cert.Equation.finite_of_sub_self (holds hw)⟩

end Cert.Pre_rows_zero_or_one.Hand

end
-- ==== Proof.Frames.lean ====
/-
  The frames: each of the three programs runs, keeps its arguments, and ends with every counter at zero.
-/
module

public import proofs.«01_k».proof.Defs
public import proofs.«01_k».proof.Proof.Grid
public import proofs.«01_k».proof.Proof.Same
public import proofs.«01_k».proof.Proof.Entries
public import proofs.«01_k».proof.Proof.Gen.ReferenceIdeal.Run

@[expose] public section

noncomputable section

namespace Cert.Frames

open Idealize.ShloMosaic Idealize.SL.Sem
open Cert.Kernel.Gen Cert.KernelIdeal.Gen Cert.ReferenceIdeal.Gen

/-- The kernel at extended reals. -/
theorem kernelIdeal : Cert.quiescent_KernelIdeal := fun m g _ =>
  (θ_run _ _ _).mono (fun _ h => ⟨fun c => (h.1 c).2, h.2⟩) (Cert.KernelIdeal.Hand.run_kept m g)

/-- The kernel at bit patterns. -/
theorem kernel : Cert.quiescent_Kernel := fun m g _ =>
  (θ_run _ _ _).mono (fun _ h => ⟨fun c => (h.1 c).2, h.2⟩) (Cert.Same.run_same _ _ (Cert.KernelIdeal.Hand.run_kept (F := Bits) m g))

/-- The reference at extended reals; it declares no counter. -/
theorem referenceIdeal : Cert.quiescent_ReferenceIdeal := fun m g _ =>
  (θ_run _ _ _).mono (fun r h => ⟨fun c => (h c).2, sem_eq_zero_of_no_sems (by decide) r.2⟩) (Cert.ReferenceIdeal.Value.run m g)

attribute [local instance] Cert.Pre_rows_zero_or_one.Hand.facts

/-- The kernel and the reference at extended reals, under the precondition, which they do not need. -/
theorem kernelIdeal_pre : Cert.quiescent_KernelIdeal_pre_rows_zero_or_one := fun m g _ =>
  (θ_run _ _ _).mono (fun _ h => ⟨fun c => (h.1 c).2, h.2⟩) (Cert.KernelIdeal.Hand.run_kept m g)
theorem referenceIdeal_pre : Cert.quiescent_ReferenceIdeal_pre_rows_zero_or_one := fun m g _ =>
  (θ_run _ _ _).mono (fun r h => ⟨fun c => (h c).2, sem_eq_zero_of_no_sems (by decide) r.2⟩) (Cert.ReferenceIdeal.Value.run m g)

end Cert.Frames

end
-- ==== Proof.Block.lean ====
/-
  What one grid point computes over the extended reals.

  Row `4096 k + b` of the array is batch entry `b` at the point's time step `k`. Its lane `e` is the
  second layer over the rectified first layer, plus the four calendar entries times the four difference
  rows, plus the bias row.
-/
module

public import proofs.«01_k».proof.Proof.Deliver
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe
open Idealize.SL.Sem

/-- A ladder over the four time steps of a point picks the time step of the row. -/
theorem ladder {α : Type} (f : Fin 4 → Fin 4096 → α) (k : Fin 4) (b : Fin 4096) (r : ℕ) (hr : r = 4096 * k.val + b.val) :
    (if h : r < 4096 then f 0 ⟨r, h⟩
      else if h1 : r - 4096 < 4096 then f 1 ⟨r - 4096, h1⟩
      else if h2 : r - 4096 - 4096 < 4096 then f 2 ⟨r - 4096 - 4096, h2⟩
      else f 3 ⟨r - 4096 - 4096 - 4096, by have := k.isLt; have := b.isLt; omega⟩) = f k b := by
  subst hr
  obtain ⟨b, hb⟩ := b
  match k with
  | 0 => rw [dif_pos (by show 4096 * 0 + b < 4096; omega)]; exact congrArg (f 0) (Fin.ext (by show 4096 * 0 + b = b; omega))
  | 1 =>
    rw [dif_neg (by show ¬ 4096 * 1 + b < 4096; omega), dif_pos (by show 4096 * 1 + b - 4096 < 4096; omega)]
    exact congrArg (f 1) (Fin.ext (by show 4096 * 1 + b - 4096 = b; omega))
  | 2 =>
    rw [dif_neg (by show ¬ 4096 * 2 + b < 4096; omega), dif_neg (by show ¬ 4096 * 2 + b - 4096 < 4096; omega),
      dif_pos (by show 4096 * 2 + b - 4096 - 4096 < 4096; omega)]
    exact congrArg (f 2) (Fin.ext (by show 4096 * 2 + b - 4096 - 4096 = b; omega))
  | 3 =>
    rw [dif_neg (by show ¬ 4096 * 3 + b < 4096; omega), dif_neg (by show ¬ 4096 * 3 + b - 4096 < 4096; omega),
      dif_neg (by show ¬ 4096 * 3 + b - 4096 - 4096 < 4096; omega)]
    exact congrArg (f 3) (Fin.ext (by show 4096 * 3 + b - 4096 - 4096 - 4096 = b; omega))

/-- A sum over the 133 rows: the 128 of the second layer, the four difference rows, the bias row. -/
theorem sum_rows (f : Fin 133 → EReal) :
    ∑ x, f x = ∑ h : Fin 128, f ⟨h.val, by omega⟩ + (∑ j : Fin 4, f ⟨128 + j.val, by omega⟩ + f ⟨132, by omega⟩) := by
  have e1 := Fin.sum_univ_add (a := 128) (b := 5) f
  have e2 := Fin.sum_univ_add (a := 4) (b := 1) (fun i : Fin 5 => f (Fin.natAdd 128 i))
  refine e1.trans (congrArg₂ (· + ·) rfl (e2.trans (congrArg₂ (· + ·) rfl ?_)))
  exact Fin.sum_univ_one _

/-- Lane `e` of the row of batch entry `b` at the point's time step `k`. -/
def rowVal (d1 : FVec Ideal S4x4x4096 .f32) (d2 : IVec S4x4x4096 32) (d3 : FVec Ideal S128x5 .f32) (d4 : FVec Ideal S133x128 .f32)
    (k : Fin 4) (b : Fin 4096) (e : Fin 128) : EReal :=
  ∑ h : Fin 128, max (∑ x : Fin 4, d3 (ix2 h ⟨x.val, by omega⟩) * d1 (ix3 k x b) + d3 (ix2 h 4)) 0 * d4 (ix2 ⟨h.val, by omega⟩ e)
    + (∑ j : Fin 4, FloatOps.sitofp (F := Ideal) FTy.f32 (d2 (ix3 k j b)) * d4 (ix2 ⟨128 + j.val, by omega⟩ e) + d4 (ix2 132 e))

theorem outMat_at (d1 : FVec Ideal S4x4x4096 .f32) (d2 : IVec S4x4x4096 32) (d3 : FVec Ideal S128x5 .f32) (d4 : FVec Ideal S133x128 .f32)
    (k : Fin 4) (b : Fin 4096) (e : Fin 128) (r : Fin 16384) (hr : r.val = 4096 * k.val + b.val) :
    outMat (F := Ideal) d1 d2 d3 d4 (ix2 r e) = rowVal d1 d2 d3 d4 k b e := by
  pointwise [outMat, k0_pay2, k0_pay1]
  rw [sum_rows]; unfold rowVal
  refine congrArg₂ (· + ·) (Finset.sum_congr rfl fun h _ => ?_) (congrArg₂ (· + ·) (Finset.sum_congr rfl fun j _ => ?_) ?_)
  · rw [dif_pos h.isLt]
    refine congrArg (· * _) (congrArg (max · 0) (congrArg₂ (· + ·) (Finset.sum_congr rfl fun x _ => ?_) ?_))
    · exact congrArg (_ * ·) (ladder (fun k b => d1 (ix3 k x b)) k b r.val hr)
    · exact Fin.sum_univ_one _
  · rw [dif_neg (by show ¬ 128 + j.val < 128; omega), dif_pos (by show 128 + j.val - 128 < 4; omega)]
    refine congrArg (· * _) (congrArg _ ((ladder (fun k b => d2 (ix3 k ⟨128 + j.val - 128, by omega⟩ b)) k b r.val hr).trans ?_))
    exact congrArg (fun x => d2 (ix3 k x b)) (Fin.ext (by show 128 + j.val - 128 = j.val; omega))
  · rw [dif_neg (by decide), dif_neg (by decide), one_mul]; rfl

end Cert.KernelIdeal.Hand

end
-- ==== Proof.Host.lean ====
/-
  What the launch finds: the arrays that the host code around the kernel builds, in terms of the arguments.
-/
module

public import proofs.«01_k».proof.Proof.Gen.KernelIdeal.Frame
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe
open Idealize.SL.Sem

variable {F : FTy → Type} [FloatOps F]

/-! ## The built arrays -/

/-- Row 0 of the four tables, end to end. -/
def baseRow (h : FVec F S24x32 .f32) (d : FVec F S7x32 .f32) (mo : FVec F S12x32 .f32) (w : FVec F S2x32 .f32) : FVec F S128 .f32 :=
  concatenate S128 0
    [⟨S32, shapeCast S32 (extractStridedSlice S1x32 ![0, 0] h slices_S24x32_S1x32_0_0) shapeCasts_S1x32_S32⟩,
     ⟨S32, shapeCast S32 (extractStridedSlice S1x32 ![0, 0] d slices_S7x32_S1x32_0_0) shapeCasts_S1x32_S32⟩,
     ⟨S32, shapeCast S32 (extractStridedSlice S1x32 ![0, 0] mo slices_S12x32_S1x32_0_0) shapeCasts_S1x32_S32⟩,
     ⟨S32, shapeCast S32 (extractStridedSlice S1x32 ![0, 0] w slices_S2x32_S1x32_0_0) shapeCasts_S1x32_S32⟩]
    concatenates_S32_S32_S32_S32_S128_d0
/-- Row 1 of the four tables, end to end. -/
def nextRow (h : FVec F S24x32 .f32) (d : FVec F S7x32 .f32) (mo : FVec F S12x32 .f32) (w : FVec F S2x32 .f32) : FVec F S128 .f32 :=
  concatenate S128 0
    [⟨S32, shapeCast S32 (extractStridedSlice S1x32 ![1, 0] h slices_S24x32_S1x32_1_0) shapeCasts_S1x32_S32⟩,
     ⟨S32, shapeCast S32 (extractStridedSlice S1x32 ![1, 0] d slices_S7x32_S1x32_1_0) shapeCasts_S1x32_S32⟩,
     ⟨S32, shapeCast S32 (extractStridedSlice S1x32 ![1, 0] mo slices_S12x32_S1x32_1_0) shapeCasts_S1x32_S32⟩,
     ⟨S32, shapeCast S32 (extractStridedSlice S1x32 ![1, 0] w slices_S2x32_S1x32_1_0) shapeCasts_S1x32_S32⟩]
    concatenates_S32_S32_S32_S32_S128_d0
/-- The lane's table: lane number divided by 32, rounded down. -/
def laneTable : IVec S128 32 :=
  select
    (andi
      (cmpi .ne (signi (iotaInDim S128 32 0)) (broadcastInDim S128 ![] bcast_S_S128 (signi (constantI S_ 32 32#32))))
      (cmpi .ne (Host.remsi (iotaInDim S128 32 0) (broadcastInDim S128 ![] bcast_S_S128 (constantI S_ 32 32#32)))
        (broadcastInDim S128 ![] bcast_S_S128 (constantI S_ 32 0#32))))
    (subi (Host.divsi (iotaInDim S128 32 0) (broadcastInDim S128 ![] bcast_S_S128 (constantI S_ 32 32#32)))
      (broadcastInDim S128 ![] bcast_S_S128 (constantI S_ 32 1#32)))
    (Host.divsi (iotaInDim S128 32 0) (broadcastInDim S128 ![] bcast_S_S128 (constantI S_ 32 32#32)))
/-- The four difference rows: row `j` is row 1 less row 0 on the lanes of table `j`, zero elsewhere. -/
def diffRows (d : FVec F S128 .f32) : FVec F S4x128 .f32 :=
  select
    (cmpi .eq (broadcastInDim S4x128 ![0, 1] bcast_S1x128_S4x128_0_1 (broadcastInDim S1x128 ![1] bcast_S128_S1x128_1 laneTable))
      (broadcastInDim S4x128 ![0, 1] bcast_S4x1_S4x128_0_1 (broadcastInDim S4x1 ![0] bcast_S4_S4x1_0 (iotaInDim S4 32 0))))
    (broadcastInDim S4x128 ![0, 1] bcast_S1x128_S4x128_0_1 (broadcastInDim S1x128 ![1] bcast_S128_S1x128_1 d))
    (broadcastInDim S4x128 ![] bcast_S_S4x128 (constant S_ .f32 0x00000000#32))
/-- The first layer with its bias column. -/
def firstLayer (W1 : FVec F S4x128 .f32) (b1 : FVec F S128 .f32) : FVec F S128x5 .f32 :=
  concatenate S128x5 1 [⟨S128x4, transpose S128x4 [1, 0] W1 transposes_S4x128_S128x4_1_0⟩, ⟨S128x1, shapeCast S128x1 b1 shapeCasts_S128_S128x1⟩]
    concatenates_S128x4_S128x1_S128x5_d1
/-- The second layer with the difference rows and the bias row. -/
def secondLayer (W2 : FVec F S128x128 .f32) (b2 base next : FVec F S128 .f32) : FVec F S133x128 .f32 :=
  concatenate S133x128 0 [⟨S128x128, W2⟩, ⟨S4x128, diffRows (subf next base)⟩, ⟨S1x128, shapeCast S1x128 (addf b2 base) shapeCasts_S128_S1x128⟩]
    concatenates_S128x128_S4x128_S1x128_S133x128_d0

/-! ## They are what the launch finds -/

variable (m : (ℓ : Loc nD τ sig) → Buf (Elt F) ℓ) (c : Dev nD)

/-- The features, time step first and batch entry last. -/
theorem V_features : V m c main_v0 = transpose S200x4x4096 [1, 2, 0] (m ((c : Thread nD τ).loc main_arg0)) transposes_S4096x200x4_S200x4x4096_1_2_0 := by
  simp only [V, hostOps0, hostOps0_1, hostOps0_2, hostOps0_3, hostOps0_4, List.flatten_cons, List.flatten_nil, List.append_nil, List.cons_append,
    List.nil_append, StableHlo.TRef.binary, StableHlo.TRef.nullary, StableHlo.TRef.ternary, StableHlo.TRef.unary, StableHlo.TRef.toBuf, StableHlo.TRef.ofBuf, cast_eq]
  after_results_simp <;> rfl
/-- The calendar, likewise. -/
theorem V_calendar : V m c main_v1 = transpose S200x4x4096 [1, 2, 0] (m ((c : Thread nD τ).loc main_arg1)) transposes_S4096x200x4_S200x4x4096_1_2_0 := by
  simp only [V, hostOps0, hostOps0_1, hostOps0_2, hostOps0_3, hostOps0_4, List.flatten_cons, List.flatten_nil, List.append_nil, List.cons_append,
    List.nil_append, StableHlo.TRef.binary, StableHlo.TRef.nullary, StableHlo.TRef.ternary, StableHlo.TRef.unary, StableHlo.TRef.toBuf, StableHlo.TRef.ofBuf, cast_eq]
  after_results_simp <;> rfl
/-- The first layer with its bias column. -/
theorem V_firstLayer : V m c main_v35 = firstLayer (m ((c : Thread nD τ).loc main_arg2)) (m ((c : Thread nD τ).loc main_arg3)) := by
  simp only [V, hostOps0, hostOps0_1, hostOps0_2, hostOps0_3, hostOps0_4, List.flatten_cons, List.flatten_nil, List.append_nil, List.cons_append,
    List.nil_append, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl
set_option maxHeartbeats 4000000 in
/-- The second layer with the difference rows and the bias row. -/
theorem V_secondLayer : V m c main_v36 = secondLayer (m ((c : Thread nD τ).loc main_arg4)) (m ((c : Thread nD τ).loc main_arg5))
    (baseRow (m ((c : Thread nD τ).loc main_arg6)) (m ((c : Thread nD τ).loc main_arg7)) (m ((c : Thread nD τ).loc main_arg8)) (m ((c : Thread nD τ).loc main_arg9)))
    (nextRow (m ((c : Thread nD τ).loc main_arg6)) (m ((c : Thread nD τ).loc main_arg7)) (m ((c : Thread nD τ).loc main_arg8)) (m ((c : Thread nD τ).loc main_arg9))) := by
  simp only [V, hostOps0, hostOps0_1, hostOps0_2, hostOps0_3, hostOps0_4, List.flatten_cons, List.flatten_nil, List.append_nil, List.cons_append,
    List.nil_append, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp) <;> rfl

end Cert.KernelIdeal.Hand

end
-- ==== Proof.Read.lean ====
/-
  The entries of the arrays the host code builds, over the extended reals.
-/
module

public import proofs.«01_k».proof.Proof.Host
public import Idealize.ShloMosaic.Lib.Pipeline.ValueKit.Point
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe
open Idealize.SL.Sem

/-- A lane's table, as a number. -/
theorem laneTable_at (e : Fin 128) : laneTable (ix1 e) = BitVec.ofNat 32 (e.val / 32) := by
  pointwise [laneTable]
  revert e
  decide +kernel

/-- The lane's table is table `j` exactly when the two words agree. -/
theorem laneTable_eq (j : Fin 4) (e : Fin 128) :
    IntOp.cmpi CmpIPredicate.eq (laneTable (ix1 e)) (BitVec.ofNat 32 j.val) = if e.val / 32 = j.val then 1#1 else 0#1 := by
  rw [laneTable_at]
  revert j e
  decide +kernel

/-- The first layer holds the first weights, turned, in its first four columns, -/
theorem firstLayer_weight (W1 : FVec Ideal S4x128 .f32) (b1 : FVec Ideal S128 .f32) (h : Fin 128) (x : Fin 4) :
    firstLayer (F := Ideal) W1 b1 (ix2 h ⟨x.val, by omega⟩) = W1 (ix2 x h) := by
  pointwise [firstLayer]
/-- and the first bias in its last. -/
theorem firstLayer_bias (W1 : FVec Ideal S4x128 .f32) (b1 : FVec Ideal S128 .f32) (h : Fin 128) :
    firstLayer (F := Ideal) W1 b1 (ix2 h 4) = b1 (ix1 h) := by
  pointwise [firstLayer]
/-- The second layer holds the second weights in its first 128 rows, -/
theorem secondLayer_weight (W2 : FVec Ideal S128x128 .f32) (b2 base next : FVec Ideal S128 .f32) (h e : Fin 128) :
    secondLayer (F := Ideal) W2 b2 base next (ix2 ⟨h.val, by omega⟩ e) = W2 (ix2 h e) := by
  pointwise [secondLayer]
/-- the second bias plus row 0 of the tables in its last, -/
theorem secondLayer_bias (W2 : FVec Ideal S128x128 .f32) (b2 base next : FVec Ideal S128 .f32) (e : Fin 128) :
    secondLayer (F := Ideal) W2 b2 base next (ix2 132 e) = b2 (ix1 e) + base (ix1 e) := by
  pointwise [secondLayer]
/-- and the four difference rows between. -/
theorem secondLayer_diff (W2 : FVec Ideal S128x128 .f32) (b2 base next : FVec Ideal S128 .f32) (j : Fin 4) (e : Fin 128) :
    secondLayer (F := Ideal) W2 b2 base next (ix2 ⟨128 + j.val, by omega⟩ e)
      = if e.val / 32 = j.val then next (ix1 e) - base (ix1 e) else 0 := by
  pointwise [secondLayer, diffRows]
  rw [laneTable_eq]
  by_cases hj : e.val / 32 = j.val
  · rw [if_pos hj, if_pos hj]; rfl
  · rw [if_neg hj, if_neg hj]; rfl

/-! ## The two rows on each table's lanes: table `j` has the lanes `32 j … 32 j + 31` -/

variable (h : FVec Ideal S24x32 .f32) (d : FVec Ideal S7x32 .f32) (mo : FVec Ideal S12x32 .f32) (w : FVec Ideal S2x32 .f32) (q : Fin 32)

theorem baseRow_0 : baseRow (F := Ideal) h d mo w (ix1 ⟨q.val, by omega⟩) = h (ix2 0 q) := by pointwise [baseRow]
theorem baseRow_1 : baseRow (F := Ideal) h d mo w (ix1 ⟨32 + q.val, by omega⟩) = d (ix2 0 q) := by pointwise [baseRow]
theorem baseRow_2 : baseRow (F := Ideal) h d mo w (ix1 ⟨64 + q.val, by omega⟩) = mo (ix2 0 q) := by
  pointwise [baseRow]
  rw [dif_neg (by omega), dif_neg (by omega), dif_pos (by omega)]
  exact congrArg (fun r => mo (ix2 _ r)) (Fin.ext (by show 64 + q.val - 32 - 32 = q.val; omega))
theorem baseRow_3 : baseRow (F := Ideal) h d mo w (ix1 ⟨96 + q.val, by omega⟩) = w (ix2 0 q) := by
  pointwise [baseRow]
  rw [dif_neg (by omega), dif_neg (by omega), dif_neg (by omega)]
  exact congrArg (fun r => w (ix2 _ r)) (Fin.ext (by show 96 + q.val - 32 - 32 - 32 = q.val; omega))
theorem nextRow_0 : nextRow (F := Ideal) h d mo w (ix1 ⟨q.val, by omega⟩) = h (ix2 1 q) := by pointwise [nextRow]
theorem nextRow_1 : nextRow (F := Ideal) h d mo w (ix1 ⟨32 + q.val, by omega⟩) = d (ix2 1 q) := by pointwise [nextRow]
theorem nextRow_2 : nextRow (F := Ideal) h d mo w (ix1 ⟨64 + q.val, by omega⟩) = mo (ix2 1 q) := by
  pointwise [nextRow]
  rw [dif_neg (by omega), dif_neg (by omega), dif_pos (by omega)]
  exact congrArg (fun r => mo (ix2 _ r)) (Fin.ext (by show 64 + q.val - 32 - 32 = q.val; omega))
theorem nextRow_3 : nextRow (F := Ideal) h d mo w (ix1 ⟨96 + q.val, by omega⟩) = w (ix2 1 q) := by
  pointwise [nextRow]
  rw [dif_neg (by omega), dif_neg (by omega), dif_neg (by omega)]
  exact congrArg (fun r => w (ix2 _ r)) (Fin.ext (by show 96 + q.val - 32 - 32 - 32 = q.val; omega))

/-! ## The blocks of one grid point -/

variable (m : (ℓ : Loc nD τ sig) → Buf (Elt Ideal) ℓ) (c : Dev nD)

/-! The block each window takes at a point. -/

theorem index_features : ∀ t : Fin cfg0.N, win0_0.index t = ![t.val, 0, 0] := by decide +kernel
theorem index_calendar : ∀ t : Fin cfg0.N, win0_1.index t = ![t.val, 0, 0] := by decide +kernel
theorem index_first : ∀ t : Fin cfg0.N, win0_2.index t = ![0, 0] := by decide +kernel
theorem index_second : ∀ t : Fin cfg0.N, win0_3.index t = ![0, 0] := by decide +kernel

/-- Point `t` has the time steps `4 t … 4 t + 3` of the features, -/
theorem iblk_features (t : Fin cfg0.N) (k x : Fin 4) (b : Fin 4096) (s : Fin 200) (hs : s.val = 4 * t.val + k.val) :
    (iblk m c 0 t : FVec Ideal S4x4x4096 .f32) (ix3 k x b) = (m ((c : Thread nD τ).loc main_arg0) : FVec Ideal S4096x200x4 .f32) (ix3 b s x) := by
  have e : (iblk m c 0 t : FVec Ideal S4x4x4096 .f32) (ix3 k x b) = (V m c main_v0 : FVec Ideal S200x4x4096 .f32) (ix3 s x b) := by
    blk_ext [iblk, index_features t]
  rw [e, V_features]
  pointwise []
/-- and of the calendar. -/
theorem iblk_calendar (t : Fin cfg0.N) (k x : Fin 4) (b : Fin 4096) (s : Fin 200) (hs : s.val = 4 * t.val + k.val) :
    (iblk m c 1 t : IVec S4x4x4096 32) (ix3 k x b) = (m ((c : Thread nD τ).loc main_arg1) : IVec S4096x200x4 32) (ix3 b s x) := by
  have e : (iblk m c 1 t : IVec S4x4x4096 32) (ix3 k x b) = (V m c main_v1 : IVec S200x4x4096 32) (ix3 s x b) := by
    blk_ext [iblk, index_calendar t]
  rw [e, V_calendar]
  pointwise []
/-- Every point has both layers whole. -/
theorem iblk_first (t : Fin cfg0.N) :
    @Eq (FVec Ideal S128x5 .f32) (iblk m c 2 t)
      (firstLayer (F := Ideal) (m ((c : Thread nD τ).loc main_arg2)) (m ((c : Thread nD τ).loc main_arg3))) := by
  rw [← V_firstLayer]
  funext i
  blk_ext [iblk, index_first t]
theorem iblk_second (t : Fin cfg0.N) :
    @Eq (FVec Ideal S133x128 .f32) (iblk m c 3 t) (secondLayer (F := Ideal) (m ((c : Thread nD τ).loc main_arg4)) (m ((c : Thread nD τ).loc main_arg5))
      (baseRow (m ((c : Thread nD τ).loc main_arg6)) (m ((c : Thread nD τ).loc main_arg7)) (m ((c : Thread nD τ).loc main_arg8)) (m ((c : Thread nD τ).loc main_arg9)))
      (nextRow (m ((c : Thread nD τ).loc main_arg6)) (m ((c : Thread nD τ).loc main_arg7)) (m ((c : Thread nD τ).loc main_arg8)) (m ((c : Thread nD τ).loc main_arg9)))) := by
  rw [← V_secondLayer]
  funext i
  blk_ext [iblk, index_second t]

end Cert.KernelIdeal.Hand

end
-- ==== Proof.Value.lean ====
/-
  The kernel's result over the extended reals, element by element, in terms of the arguments.
-/
module

public import proofs.«01_k».proof.Proof.Grid
public import proofs.«01_k».proof.Proof.Block
public import proofs.«01_k».proof.Proof.Read

@[expose] public section

set_option maxRecDepth 16384

noncomputable section

namespace Cert.KernelIdeal.Hand

open Cert.KernelIdeal Cert.KernelIdeal.Gen
open Idealize.ShloMosaic Idealize.ShloMosaic.TcCoe
open Idealize.SL.Sem

/-- One element of the kernel's result: batch entry `b`, time step `t`, lane `e`. -/
def element (x : FVec Ideal S4096x200x4 .f32) (cal : IVec S4096x200x4 32) (W1 : FVec Ideal S4x128 .f32) (b1 : FVec Ideal S128 .f32)
    (W2 : FVec Ideal S128x128 .f32) (b2 base next : FVec Ideal S128 .f32) (b : Fin 4096) (t : Fin 200) (e : Fin 128) : EReal :=
  ∑ h : Fin 128, max (∑ k : Fin 4, x (ix3 b t k) * W1 (ix2 k h) + b1 (ix1 h)) 0 * W2 (ix2 h e)
    + (∑ j : Fin 4, FloatOps.sitofp (F := Ideal) FTy.f32 (cal (ix3 b t j)) * (if e.val / 32 = j.val then next (ix1 e) - base (ix1 e) else 0)
      + (b2 (ix1 e) + base (ix1 e)))

/-- A row of a point's array, from the blocks' entries. -/
theorem rowVal_eq (d1 : FVec Ideal S4x4x4096 .f32) (d2 : IVec S4x4x4096 32) (x : FVec Ideal S4096x200x4 .f32) (cal : IVec S4096x200x4 32)
    (W1 : FVec Ideal S4x128 .f32) (b1 : FVec Ideal S128 .f32) (W2 : FVec Ideal S128x128 .f32) (b2 base next : FVec Ideal S128 .f32)
    (k : Fin 4) (b : Fin 4096) (t : Fin 200) (e : Fin 128)
    (h1 : ∀ i : Fin 4, d1 (ix3 k i b) = x (ix3 b t i)) (h2 : ∀ i : Fin 4, d2 (ix3 k i b) = cal (ix3 b t i)) :
    rowVal d1 d2 (firstLayer (F := Ideal) W1 b1) (secondLayer (F := Ideal) W2 b2 base next) k b e = element x cal W1 b1 W2 b2 base next b t e := by
  unfold rowVal element
  refine congrArg₂ (· + ·) (Finset.sum_congr rfl fun h _ => congrArg₂ (· * ·) (congrArg (max · 0) (congrArg₂ (· + ·) ?_ (firstLayer_bias W1 b1 h)))
    (secondLayer_weight W2 b2 base next h e)) (congrArg₂ (· + ·) ?_ (secondLayer_bias W2 b2 base next e))
  · exact Finset.sum_congr rfl fun i _ => by rw [firstLayer_weight, h1, mul_comm]
  · exact Finset.sum_congr rfl fun j _ => by rw [secondLayer_diff, h2]

variable (m : (ℓ : Loc nD τ sig) → Buf (Elt Ideal) ℓ) (c : Dev nD)

/-- The result at batch entry `b`, time step `t`, lane `e`. -/
theorem result_at (b : Fin 4096) (t : Fin 200) (e : Fin 128) :
    (result m c : FVec Ideal S4096x200x128 .f32) (ix3 b t e)
      = element (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (baseRow (F := Ideal) (m ((c : Thread nD τ).loc main_arg6)) (m ((c : Thread nD τ).loc main_arg7)) (m ((c : Thread nD τ).loc main_arg8)) (m ((c : Thread nD τ).loc main_arg9)))
          (nextRow (F := Ideal) (m ((c : Thread nD τ).loc main_arg6)) (m ((c : Thread nD τ).loc main_arg7)) (m ((c : Thread nD τ).loc main_arg8)) (m ((c : Thread nD τ).loc main_arg9)))
          b t e := by
  have hb := b.isLt
  have ht := t.isLt
  have hm := Nat.mod_lt t.val (show 0 < 4 by decide)
  have hs : t.val = 4 * (point (t.val / 4)).val + t.val % 4 := by
    show t.val = 4 * min (t.val / 4) 49 + t.val % 4
    omega
  refine (outMat_at (iblk m c 0 (point (t.val / 4))) (iblk m c 1 (point (t.val / 4))) (iblk m c 2 (point (t.val / 4))) (iblk m c 3 (point (t.val / 4)))
    ⟨t.val % 4, hm⟩ b e ⟨4096 * (t.val % 4) + b.val, by omega⟩ rfl).trans ?_
  refine (congrArg₂ (fun d3 d4 => rowVal (iblk m c 0 (point (t.val / 4))) (iblk m c 1 (point (t.val / 4))) d3 d4 ⟨t.val % 4, hm⟩ b e)
    (iblk_first m c (point (t.val / 4))) (iblk_second m c (point (t.val / 4)))).trans ?_
  exact rowVal_eq _ _ _ _ _ _ _ _ _ _ _ b t e (fun i => iblk_features m c _ _ i b t hs) (fun i => iblk_calendar m c _ _ i b t hs)

end Cert.KernelIdeal.Hand

end
-- ==== Proof.Take.lean ====
/-
  The reference's lookup: one row of a table for each batch entry and time step, by the entry of the calendar.

  An entry that is zero or one is a row of every table, so the lookup neither wraps, nor clamps, nor marks it as out of range.
-/
module

public import proofs.«01_k».proof.Proof.Gen.ReferenceIdeal.Run
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe
open Idealize.SL.Sem

/-! ## A gather of whole rows -/

/-- A gather of whole rows of a table with `n` rows, one for each entry of the index column. -/
def rowsOf (n : ℕ) (wf : GatherDims.WF ⟨2, ![n, 32]⟩ S4096x200x1 S4096x200x32 [2] [0] [] [0] [] 2 ![1, 32]) :
    GatherDims ⟨2, ![n, 32]⟩ S4096x200x1 S4096x200x32 where
  offsetDims := [2]
  collapsedSliceDims := [0]
  operandBatchingDims := []
  startIndicesBatchingDims := []
  startIndexMap := [0]
  indexVectorDim := 2
  sliceSizes := ![1, 32]
  wf := wf

/-- The gather reads, at an index, the row its entry names. -/
theorem rowsOf_at {n : ℕ} (wf) {α : Type} (x : (⟨2, ![n, 32]⟩ : Shape).Idx → α) (idx : IVec S4096x200x1 32)
    (b : Fin 4096) (t : Fin 200) (q : Fin 32) (r : Fin n) (hr : (idx (ix3 b t 0)).toInt.toNat = r.val) :
    Host.gather (rowsOf n wf) x idx (ix3 b t q) = x (ix2 r q) := by
  refine congrArg x (funext fun a => Fin.ext ?_)
  have hi : (rowsOf n wf).siIdx (ix3 b t q) ⟨0, Nat.one_pos⟩ = (ix3 b t 0 : S4096x200x1.Idx) := by
    funext k
    match k with
    | ⟨0, _⟩ => rfl
    | ⟨1, _⟩ => rfl
    | ⟨2, _⟩ => rfl
  match a with
  | ⟨0, _⟩ =>
    show min (idx ((rowsOf n wf).siIdx (ix3 b t q) ⟨0, Nat.one_pos⟩)).toInt.toNat (n - 1) + 0 + 0 = r.val
    rw [hi, hr]
    have := r.isLt
    omega
  | ⟨1, _⟩ => show 0 + 0 + q.val = q.val; omega

/-! ## The lookup -/

variable {F : FTy → Type} [FloatOps F]

/-- The row numbers of a table of `n` rows: an entry of the calendar, a negative one counted from the end. -/
def rowNumbers (n : BitVec 32) (col : IVec S4096x200 32) : IVec S4096x200x1 32 :=
  broadcastInDim S4096x200x1 ![0, 1] bcast_S4096x200_S4096x200x1_0_1
    (select (cmpi .slt col (broadcastInDim S4096x200 ![] bcast_S_S4096x200 (constantI S_ 32 0#32)))
      (addi col (broadcastInDim S4096x200 ![] bcast_S_S4096x200 (constantI S_ 32 n))) col)
/-- The rows of a table: its row at each row number from zero to `last`, not a number elsewhere. -/
def lookup {k : ℕ} (g : GatherDims ⟨2, ![k, 32]⟩ S4096x200x1 S4096x200x32) (n last : BitVec 32) (table : FVec F ⟨2, ![k, 32]⟩ .f32)
    (col : IVec S4096x200 32) : FVec F S4096x200x32 .f32 :=
  select
    (broadcastInDim S4096x200x32 ![0, 1] bcast_S4096x200_S4096x200x32_0_1
      (Host.reduce IntOp.andi
        (andi (cmpi .sge (rowNumbers n col) (broadcastInDim S4096x200x1 ![] bcast_S_S4096x200x1 (constantI S_ 32 0#32)))
          (cmpi .sle (rowNumbers n col)
            (broadcastInDim S4096x200x1 ![0, 1, 2] bcast_S1x1x1_S4096x200x1_0_1_2 (broadcastInDim S1x1x1 ![2] bcast_S1_S1x1x1_2 (constantI S1 32 last)))))
        (constantI S_ 1 1#1) reducesTo_S4096x200x1_S4096x200_d2 h_S_))
    (Host.gather g table (rowNumbers n col))
    (broadcastInDim S4096x200x32 ![] bcast_S_S4096x200x32 (constant S_ .f32 0x7FC00000#32))

/-- An entry that is zero or one is its own row number. -/
theorem rowNumbers_at (n : BitVec 32) (col : IVec S4096x200 32) (b : Fin 4096) (t : Fin 200) (hw : col (ix2 b t) = 0#32 ∨ col (ix2 b t) = 1#32) :
    rowNumbers n col (ix3 b t 0) = col (ix2 b t) := by
  pointwise [rowNumbers]
  rcases hw with h | h <;> rw [h] <;> rfl

/-- The lookup of an entry that is zero or one is the row of that number. -/
theorem lookup_at {k : ℕ} (wf) (n last : BitVec 32) (table : FVec Ideal ⟨2, ![k, 32]⟩ .f32) (col : IVec S4096x200 32)
    (b : Fin 4096) (t : Fin 200) (q : Fin 32) (r : Fin k) (hr : r.val ≤ 1) (hw : col (ix2 b t) = BitVec.ofNat 32 r.val)
    (hl : ∀ w : Fin 2, IntOp.cmpi .sle (BitVec.ofNat 32 w.val) last = 1#1) :
    lookup (F := Ideal) (rowsOf k wf) n last table col (ix3 b t q) = table (ix2 r q) := by
  have h01 : r.val = 0 ∨ r.val = 1 := by omega
  have hn : rowNumbers n col (ix3 b t 0) = BitVec.ofNat 32 r.val := by
    rw [rowNumbers_at n col b t (by rw [hw]; rcases h01 with h | h <;> rw [h] <;> simp), hw]
  have hg := rowsOf_at wf table (rowNumbers n col) b t q r (by rw [hn]; rcases h01 with h | h <;> rw [h] <;> rfl)
  have hlast := hl ⟨r.val, by omega⟩
  pointwise [lookup]
  rw [hg, Finset.univ_unique, Finset.fold_singleton, show (default : Fin 1) = 0 from rfl, hn, hlast]
  rcases h01 with h | h <;> rw [h] <;> rfl

/-! ## The reference's result -/

/-- Column `j` of the calendar. -/
def column (j : ℕ) (h : S4096x200x4.Slices ![0, 0, j] S4096x200x1) (cal : IVec S4096x200x4 32) : IVec S4096x200 32 :=
  shapeCast _ (extractStridedSlice S4096x200x1 ![0, 0, j] cal h) shapeCasts_S4096x200x1_S4096x200
/-- The four lookups, end to end. -/
def lookups (cal : IVec S4096x200x4 32) (h : FVec F S24x32 .f32) (d : FVec F S7x32 .f32) (mo : FVec F S12x32 .f32) (w : FVec F S2x32 .f32) :
    FVec F S4096x200x128 .f32 :=
  concatenate S4096x200x128 2
    [⟨S4096x200x32, lookup (rowsOf 24 gather_S24x32_S4096x200x1_S4096x200x32_2_0_n_n_0_2_132_wf) 24#32 23#32 h (column 0 slices_S4096x200x4_S4096x200x1_0_0_0 cal)⟩,
     ⟨S4096x200x32, lookup (rowsOf 7 gather_S7x32_S4096x200x1_S4096x200x32_2_0_n_n_0_2_132_wf) 7#32 6#32 d (column 1 slices_S4096x200x4_S4096x200x1_0_0_1 cal)⟩,
     ⟨S4096x200x32, lookup (rowsOf 12 gather_S12x32_S4096x200x1_S4096x200x32_2_0_n_n_0_2_132_wf) 12#32 11#32 mo (column 2 slices_S4096x200x4_S4096x200x1_0_0_2 cal)⟩,
     ⟨S4096x200x32, lookup (rowsOf 2 gather_S2x32_S4096x200x1_S4096x200x32_2_0_n_n_0_2_132_wf) 2#32 1#32 w (column 3 slices_S4096x200x4_S4096x200x1_0_0_3 cal)⟩]
    concatenates_S4096x200x32_S4096x200x32_S4096x200x32_S4096x200x32_S4096x200x128_d2
/-- The two layers. -/
def layers (x : FVec F S4096x200x4 .f32) (W1 : FVec F S4x128 .f32) (b1 : FVec F S128 .f32) (W2 : FVec F S128x128 .f32) (b2 : FVec F S128 .f32) :
    FVec F S4096x200x128 .f32 :=
  addf (Host.dotGeneral dot_S4096x200x128_S128x128_S4096x200x128_2_0_01_1_n_n none
      (maximumf (addf (Host.dotGeneral dot_S4096x200x4_S4x128_S4096x200x128_2_0_01_1_n_n none x W1)
          (broadcastInDim S4096x200x128 ![0, 1, 2] bcast_S1x1x128_S4096x200x128_0_1_2 (broadcastInDim S1x1x128 ![2] bcast_S128_S1x1x128_2 b1)))
        (broadcastInDim S4096x200x128 ![] bcast_S_S4096x200x128 (constant S_ .f32 0x00000000#32)))
      W2)
    (broadcastInDim S4096x200x128 ![0, 1, 2] bcast_S1x1x128_S4096x200x128_0_1_2 (broadcastInDim S1x1x128 ![2] bcast_S128_S1x1x128_2 b2))

/-- The reference's result is the layers plus the lookups. -/
theorem res_eq (m : (ℓ : Loc nD τ sig) → Buf (Elt F) ℓ) (c : Dev nD) :
    Cert.ReferenceIdeal.Value.res_main_v22 m c
      = addf (layers (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5)))
        (lookups (m ((c.tc : Thread nD τ).loc main_arg1)) (m ((c.tc : Thread nD τ).loc main_arg6)) (m ((c.tc : Thread nD τ).loc main_arg7))
          (m ((c.tc : Thread nD τ).loc main_arg8)) (m ((c.tc : Thread nD τ).loc main_arg9))) := by
  unfold Cert.ReferenceIdeal.Value.res_main_v22
  rfl

/-- The layers at an index. -/
theorem layers_at (x : FVec Ideal S4096x200x4 .f32) (W1 : FVec Ideal S4x128 .f32) (b1 : FVec Ideal S128 .f32) (W2 : FVec Ideal S128x128 .f32)
    (b2 : FVec Ideal S128 .f32) (b : Fin 4096) (t : Fin 200) (e : Fin 128) :
    layers (F := Ideal) x W1 b1 W2 b2 (ix3 b t e)
      = ∑ h : Fin 128, max (∑ k : Fin 4, x (ix3 b t k) * W1 (ix2 k h) + b1 (ix1 h)) 0 * W2 (ix2 h e) + b2 (ix1 e) := by
  pointwise [layers]

/-- A column of the calendar at an index. -/
theorem column_at (j : Fin 4) (hs) (cal : IVec S4096x200x4 32) (b : Fin 4096) (t : Fin 200) : column j.val hs cal (ix2 b t) = cal (ix3 b t j) := by
  pointwise [column]

variable (cal : IVec S4096x200x4 32) (h : FVec Ideal S24x32 .f32) (d : FVec Ideal S7x32 .f32) (mo : FVec Ideal S12x32 .f32) (w : FVec Ideal S2x32 .f32)
  (b : Fin 4096) (t : Fin 200) (q : Fin 32)

/-! On the lanes of a table the lookups read that table's row of the entry's number. -/

theorem lookups_0 (r : Fin 24) (hr : r.val ≤ 1) (hw : cal (ix3 b t 0) = BitVec.ofNat 32 r.val) :
    lookups (F := Ideal) cal h d mo w (ix3 b t ⟨q.val, by omega⟩) = h (ix2 r q) := by
  rw [← lookup_at gather_S24x32_S4096x200x1_S4096x200x32_2_0_n_n_0_2_132_wf 24#32 23#32 h (column 0 slices_S4096x200x4_S4096x200x1_0_0_0 cal) b t q r hr
    (by rw [← hw]; exact column_at 0 _ cal b t) (by decide)]
  pointwise [lookups]
theorem lookups_1 (r : Fin 7) (hr : r.val ≤ 1) (hw : cal (ix3 b t 1) = BitVec.ofNat 32 r.val) :
    lookups (F := Ideal) cal h d mo w (ix3 b t ⟨32 + q.val, by omega⟩) = d (ix2 r q) := by
  rw [← lookup_at gather_S7x32_S4096x200x1_S4096x200x32_2_0_n_n_0_2_132_wf 7#32 6#32 d (column 1 slices_S4096x200x4_S4096x200x1_0_0_1 cal) b t q r hr
    (by rw [← hw]; exact column_at 1 _ cal b t) (by decide)]
  pointwise [lookups]
theorem lookups_2 (r : Fin 12) (hr : r.val ≤ 1) (hw : cal (ix3 b t 2) = BitVec.ofNat 32 r.val) :
    lookups (F := Ideal) cal h d mo w (ix3 b t ⟨64 + q.val, by omega⟩) = mo (ix2 r q) := by
  rw [← lookup_at gather_S12x32_S4096x200x1_S4096x200x32_2_0_n_n_0_2_132_wf 12#32 11#32 mo (column 2 slices_S4096x200x4_S4096x200x1_0_0_2 cal) b t q r hr
    (by rw [← hw]; exact column_at 2 _ cal b t) (by decide)]
  pointwise [lookups]
  rw [dif_neg (by omega), dif_neg (by omega), dif_pos (by omega)]
  exact congrArg (fun p => lookup _ _ _ mo _ (ix3 b t p)) (Fin.ext (by show 64 + q.val - 32 - 32 = q.val; omega))
theorem lookups_3 (r : Fin 2) (hw : cal (ix3 b t 3) = BitVec.ofNat 32 r.val) :
    lookups (F := Ideal) cal h d mo w (ix3 b t ⟨96 + q.val, by omega⟩) = w (ix2 r q) := by
  rw [← lookup_at gather_S2x32_S4096x200x1_S4096x200x32_2_0_n_n_0_2_132_wf 2#32 1#32 w (column 3 slices_S4096x200x4_S4096x200x1_0_0_3 cal) b t q r (by omega)
    (by rw [← hw]; exact column_at 3 _ cal b t) (by decide)]
  pointwise [lookups]
  rw [dif_neg (by omega), dif_neg (by omega), dif_neg (by omega)]
  exact congrArg (fun p => lookup _ _ _ w _ (ix3 b t p)) (Fin.ext (by show 96 + q.val - 32 - 32 - 32 = q.val; omega))

end Cert.ReferenceIdeal.Hand

end
-- ==== Proof.Agree.lean ====
/-
  The kernel and the reference give equal results over the extended reals.
-/
module

public import proofs.«01_k».proof.Defs
public import proofs.«01_k».proof.Proof.Value
public import proofs.«01_k».proof.Proof.Take
public import proofs.«01_k».proof.Proof.Entries

@[expose] public section

set_option maxRecDepth 16384

noncomputable section

namespace Cert.Agree

open Idealize.ShloMosaic Idealize.SL.Sem
open Cert.KernelIdeal.Gen Cert.ReferenceIdeal.Gen

/-- Every lane is one of the 32 of one of the four tables. -/
theorem lane_cases (e : Fin 128) : (∃ q : Fin 32, e = ⟨q.val, by omega⟩) ∨ (∃ q : Fin 32, e = ⟨32 + q.val, by omega⟩)
    ∨ (∃ q : Fin 32, e = ⟨64 + q.val, by omega⟩) ∨ (∃ q : Fin 32, e = ⟨96 + q.val, by omega⟩) := by
  by_cases g0 : e.val < 32
  · exact .inl ⟨⟨e.val, g0⟩, rfl⟩
  by_cases g1 : e.val < 64
  · exact .inr (.inl ⟨⟨e.val - 32, by omega⟩, Fin.ext (by show e.val = 32 + (e.val - 32); omega)⟩)
  by_cases g2 : e.val < 96
  · exact .inr (.inr (.inl ⟨⟨e.val - 64, by omega⟩, Fin.ext (by show e.val = 64 + (e.val - 64); omega)⟩))
  · exact .inr (.inr (.inr ⟨⟨e.val - 96, by omega⟩, Fin.ext (by show e.val = 96 + (e.val - 96); omega)⟩))

/-! ## One element -/

section Element

open Cert.KernelIdeal Cert.KernelIdeal.Hand

variable (x : FVec Ideal S4096x200x4 .f32) (cal : IVec S4096x200x4 32) (W1 : FVec Ideal S4x128 .f32) (b1 : FVec Ideal S128 .f32)
  (W2 : FVec Ideal S128x128 .f32) (b2 : FVec Ideal S128 .f32)
  (h : FVec Ideal S24x32 .f32) (d : FVec Ideal S7x32 .f32) (mo : FVec Ideal S12x32 .f32) (w : FVec Ideal S2x32 .f32)

/-- The reference's element: the layers plus the lookups. -/
def expected (b : Fin 4096) (t : Fin 200) (e : Fin 128) : EReal :=
  ∑ h : Fin 128, max (∑ k : Fin 4, x (ix3 b t k) * W1 (ix2 k h) + b1 (ix1 h)) 0 * W2 (ix2 h e) + b2 (ix1 e)
    + Cert.ReferenceIdeal.Hand.lookups (F := Ideal) cal h d mo w (ix3 b t e)

/-- The kernel's element is the reference's, on a lane of table `j`. -/
theorem element_of (b : Fin 4096) (t : Fin 200) (e : Fin 128) (j : Fin 4) (hj : e.val / 32 = j.val)
    (hc : cal (ix3 b t j) = 0#32 ∨ cal (ix3 b t j) = 1#32) (hb : ∃ r : ℝ, baseRow (F := Ideal) h d mo w (ix1 e) = (r : EReal))
    (h0 : cal (ix3 b t j) = 0#32 → Cert.ReferenceIdeal.Hand.lookups (F := Ideal) cal h d mo w (ix3 b t e) = baseRow (F := Ideal) h d mo w (ix1 e))
    (h1 : cal (ix3 b t j) = 1#32 → Cert.ReferenceIdeal.Hand.lookups (F := Ideal) cal h d mo w (ix3 b t e) = nextRow (F := Ideal) h d mo w (ix1 e)) :
    element x cal W1 b1 W2 b2 (baseRow (F := Ideal) h d mo w) (nextRow (F := Ideal) h d mo w) b t e = expected x cal W1 b1 W2 b2 h d mo w b t e :=
  Cert.Equation.ends_agree _ _ _ _ _ (fun i => cal (ix3 b t i)) j (e.val / 32) hj hc hb h0 h1

variable (hp : ∀ (b : Fin 4096) (t : Fin 200) (j : Fin 4) (q : Fin 32), (cal (ix3 b t j) = 0#32 ∨ cal (ix3 b t j) = 1#32)
  ∧ (∃ r : ℝ, h (ix2 0 q) = (r : EReal)) ∧ (∃ r : ℝ, d (ix2 0 q) = (r : EReal)) ∧ (∃ r : ℝ, mo (ix2 0 q) = (r : EReal)) ∧ ∃ r : ℝ, w (ix2 0 q) = (r : EReal))
include hp

/-- The kernel's element is the reference's. -/
theorem element_eq (b : Fin 4096) (t : Fin 200) (e : Fin 128) :
    element x cal W1 b1 W2 b2 (baseRow (F := Ideal) h d mo w) (nextRow (F := Ideal) h d mo w) b t e = expected x cal W1 b1 W2 b2 h d mo w b t e := by
  rcases lane_cases e with ⟨q, rfl⟩ | ⟨q, rfl⟩ | ⟨q, rfl⟩ | ⟨q, rfl⟩
  · refine element_of x cal W1 b1 W2 b2 h d mo w b t _ 0 (by show q.val / 32 = 0; omega) (hp b t 0 q).1 ?_ (fun hc => ?_) (fun hc => ?_)
    · rw [baseRow_0]; exact (hp b t 0 q).2.1
    · rw [baseRow_0]; exact Cert.ReferenceIdeal.Hand.lookups_0 cal h d mo w b t q 0 (by decide) hc
    · rw [nextRow_0]; exact Cert.ReferenceIdeal.Hand.lookups_0 cal h d mo w b t q 1 (by decide) hc
  · refine element_of x cal W1 b1 W2 b2 h d mo w b t _ 1 (by show (32 + q.val) / 32 = 1; omega) (hp b t 1 q).1 ?_ (fun hc => ?_) (fun hc => ?_)
    · rw [baseRow_1]; exact (hp b t 1 q).2.2.1
    · rw [baseRow_1]; exact Cert.ReferenceIdeal.Hand.lookups_1 cal h d mo w b t q 0 (by decide) hc
    · rw [nextRow_1]; exact Cert.ReferenceIdeal.Hand.lookups_1 cal h d mo w b t q 1 (by decide) hc
  · refine element_of x cal W1 b1 W2 b2 h d mo w b t _ 2 (by show (64 + q.val) / 32 = 2; omega) (hp b t 2 q).1 ?_ (fun hc => ?_) (fun hc => ?_)
    · rw [baseRow_2]; exact (hp b t 2 q).2.2.2.1
    · rw [baseRow_2]; exact Cert.ReferenceIdeal.Hand.lookups_2 cal h d mo w b t q 0 (by decide) hc
    · rw [nextRow_2]; exact Cert.ReferenceIdeal.Hand.lookups_2 cal h d mo w b t q 1 (by decide) hc
  · refine element_of x cal W1 b1 W2 b2 h d mo w b t _ 3 (by show (96 + q.val) / 32 = 3; omega) (hp b t 3 q).1 ?_ (fun hc => ?_) (fun hc => ?_)
    · rw [baseRow_3]; exact (hp b t 3 q).2.2.2.2
    · rw [baseRow_3]; exact Cert.ReferenceIdeal.Hand.lookups_3 cal h d mo w b t q 0 hc
    · rw [nextRow_3]; exact Cert.ReferenceIdeal.Hand.lookups_3 cal h d mo w b t q 1 hc

end Element

/-! ## The results -/

/-- The reference's result at an index. -/
theorem reference_at (m' : (ℓ : Loc Cert.ReferenceIdeal.nD Cert.ReferenceIdeal.τ Cert.ReferenceIdeal.sig) → Buf (Elt Ideal) ℓ)
    (c : Dev Cert.ReferenceIdeal.nD) (b : Fin 4096) (t : Fin 200) (e : Fin 128) :
    (Cert.ReferenceIdeal.Value.res_main_v22 m' c : FVec Ideal Cert.ReferenceIdeal.S4096x200x128 .f32) (ix3 b t e)
      = expected (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9)) b t e :=
  (congrFun (Cert.ReferenceIdeal.Hand.res_eq m' c) (ix3 b t e)).trans
    (congrArg₂ (· + ·) (Cert.ReferenceIdeal.Hand.layers_at _ _ _ _ _ b t e) rfl)

attribute [local instance] Cert.Pre_rows_zero_or_one.Hand.facts

/-- From memories that agree on the arguments, under the precondition, the two results are equal. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_rows_zero_or_one m) (c : Dev Cert.KernelIdeal.nD)
    (heq : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    @Eq (FVec Ideal Cert.ReferenceIdeal.S4096x200x128 .f32) (Cert.ReferenceIdeal.Value.res_main_v22 m' c) (Cert.KernelIdeal.Hand.result m c) := by
  obtain ⟨e0, e1, e2, e3, e4, e5, e6, e7, e8, e9⟩ := heq
  funext i
  obtain ⟨b, t, e, rfl⟩ : ∃ (b : Fin 4096) (t : Fin 200) (e : Fin 128), i = ix3 b t e :=
    ⟨i 0, i 1, i 2, funext fun a => by fin_cases a <;> rfl⟩
  refine (reference_at m' c b t e).trans ?_
  refine Eq.trans ?_ (Cert.KernelIdeal.Hand.result_at m c b t e).symm
  rw [e0, e1, e2, e3, e4, e5, e6, e7, e8, e9]
  exact (element_eq _ _ _ _ _ _ _ _ _ _ (fun b t j q => Cert.Pre_rows_zero_or_one.Hand.at_index _ _ _ _ _ _ _ _ _ _ (hpre c) b t j q) b t e).symm

/-- The value claim. -/
theorem algebraic : Cert.algebraic_KernelIdeal_ReferenceIdeal_pre_rows_zero_or_one := fun m g m' g' hpre heq =>
  ⟨fun c => Cert.KernelIdeal.Hand.result m c,
    (θ_run _ _ _).mono (fun _ h => h.1) (Cert.KernelIdeal.Hand.run_kept m g),
    (θ_run _ _ _).mono (fun _ h c => ⟨(h c).1.trans (results_eq m m' hpre c (heq c)), (h c).2⟩) (Cert.ReferenceIdeal.Value.run m' g')⟩

end Cert.Agree

end
-- ==== Proof.lean ====
/-
  The certificate: the frames of the kernel, of the kernel over the extended reals and of the reference.
-/
module

public import proofs.«01_k».proof.Defs
public import proofs.«01_k».proof.Proof.Frames
public import proofs.«01_k».proof.Proof.Agree

@[expose] public section

noncomputable section

namespace Cert.Proof

theorem claim : Cert.Claim :=
  ⟨Cert.Kernel.Gen.facts, Cert.KernelIdeal.Gen.facts, Cert.ReferenceIdeal.Gen.facts, Cert.Pre_rows_zero_or_one.Hand.facts,
    Cert.Frames.kernel, Cert.Frames.kernelIdeal, Cert.Frames.kernelIdeal_pre, Cert.Frames.referenceIdeal, Cert.Frames.referenceIdeal_pre,
    trivial, Cert.Agree.algebraic⟩

end Cert.Proof

end
